-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2048x4096 : Shape := ⟨3, ![4, 2048, 4096]⟩
abbrev S4096 : Shape := ⟨1, ![4096]⟩
abbrev S4096x4096 : Shape := ⟨2, ![4096, 4096]⟩
abbrev S4096x32 : Shape := ⟨2, ![4096, 32]⟩
abbrev S32x4096 : Shape := ⟨2, ![32, 4096]⟩
abbrev S_ : Shape := ⟨0, ![]⟩

class Facts : Prop where
  bcast_S_S4x2048x4096 : S_.BroadcastsInDim S4x2048x4096 (![] : Fin 0 → Fin S4x2048x4096.rank)
  bcast_S_S4096 : S_.BroadcastsInDim S4096 (![] : Fin 0 → Fin S4096.rank)
  bcast_S_S4096x4096 : S_.BroadcastsInDim S4096x4096 (![] : Fin 0 → Fin S4096x4096.rank)
  bcast_S_S4096x32 : S_.BroadcastsInDim S4096x32 (![] : Fin 0 → Fin S4096x32.rank)
  bcast_S_S32x4096 : S_.BroadcastsInDim S32x4096 (![] : Fin 0 → Fin S32x4096.rank)

variable [Facts]

def fn {F : FTy → Type} [FloatOps F] (main_arg0 : FVec F S4x2048x4096 .f32) (main_arg1 : FVec F S4096 .f32) (main_arg2 : FVec F S4096 .f32) (main_arg3 : FVec F S4096x4096 .f32) (main_arg4 : FVec F S4096x32 .f32) (main_arg5 : FVec F S32x4096 .f32) (main_arg6 : FVec F S4096 .f32) : IVec S4x2048x4096 1 × IVec S4096 1 × IVec S4096 1 × IVec S4096x4096 1 × IVec S4096x32 1 × IVec S32x4096 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_v3 : FVec F S4096 .f32 := Host.absf main_arg1
  let main_cst_0 : FVec F S_ .f32 := constant S_ .f32 0x7F800000#32
  let main_v4 : FVec F S4096 .f32 := broadcastInDim S4096 ![] bcast_S_S4096 main_cst_0
  let main_v5 : IVec S4096 1 := cmpf .olt main_v3 main_v4
  let main_v6 : FVec F S4096 .f32 := Host.absf main_arg2
  let main_cst_1 : FVec F S_ .f32 := constant S_ .f32 0x7F800000#32
  let main_v7 : FVec F S4096 .f32 := broadcastInDim S4096 ![] bcast_S_S4096 main_cst_1
  let main_v8 : IVec S4096 1 := cmpf .olt main_v6 main_v7
  let main_v9 : FVec F S4096x4096 .f32 := Host.absf main_arg3
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_v12 : FVec F S4096x32 .f32 := Host.absf main_arg4
  let main_cst_3 : FVec F S_ .f32 := constant S_ .f32 0x7F800000#32
  let main_v13 : FVec F S4096x32 .f32 := broadcastInDim S4096x32 ![] bcast_S_S4096x32 main_cst_3
  let main_v14 : IVec S4096x32 1 := cmpf .olt main_v12 main_v13
  let main_v15 : FVec F S32x4096 .f32 := Host.absf main_arg5
  let main_cst_4 : FVec F S_ .f32 := constant S_ .f32 0x7F800000#32
  let main_v16 : FVec F S32x4096 .f32 := broadcastInDim S32x4096 ![] bcast_S_S32x4096 main_cst_4
  let main_v17 : IVec S32x4096 1 := cmpf .olt main_v15 main_v16
  (main_v2, main_v5, main_v8, main_v11, main_v14, main_v17)
-- ==== Kernel.lean ====
abbrev S4x2048x4096 : Shape := ⟨3, ![4, 2048, 4096]⟩
abbrev S4096 : Shape := ⟨1, ![4096]⟩
abbrev S4096x4096 : Shape := ⟨2, ![4096, 4096]⟩
abbrev S4096x32 : Shape := ⟨2, ![4096, 32]⟩
abbrev S32x4096 : Shape := ⟨2, ![32, 4096]⟩
abbrev S8192x4096 : Shape := ⟨2, ![8192, 4096]⟩
abbrev S32x128 : Shape := ⟨2, ![32, 128]⟩
abbrev S1x4096 : Shape := ⟨2, ![1, 4096]⟩
abbrev S256x4096 : Shape := ⟨2, ![256, 4096]⟩
abbrev S2x256x4096 : Shape := ⟨3, ![2, 256, 4096]⟩
abbrev S4x64x4096 : Shape := ⟨3, ![4, 64, 4096]⟩
abbrev S4 : Shape := ⟨1, ![4]⟩
abbrev S1 : Shape := ⟨1, ![1]⟩
abbrev S_ : Shape := ⟨0, ![]⟩
abbrev S1x64x4096 : Shape := ⟨3, ![1, 64, 4096]⟩
abbrev S64x4096 : Shape := ⟨2, ![64, 4096]⟩
abbrev S32x64 : Shape := ⟨2, ![32, 64]⟩
abbrev S1x64 : Shape := ⟨2, ![1, 64]⟩
abbrev S64x1 : Shape := ⟨2, ![64, 1]⟩
abbrev S1x256x4096 : Shape := ⟨3, ![1, 256, 4096]⟩
abbrev S256 : Shape := ⟨1, ![256]⟩
abbrev S256x1 : Shape := ⟨2, ![256, 1]⟩

abbrev nBuf : Space → Nat
  | .hbm => 14
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4096, .f32⟩
  | .hbm, ⟨3, _⟩ => ⟨S4096x4096, .f32⟩
  | .hbm, ⟨4, _⟩ => ⟨S4096x32, .f32⟩
  | .hbm, ⟨5, _⟩ => ⟨S32x4096, .f32⟩
  | .hbm, ⟨6, _⟩ => ⟨S4096, .f32⟩
  | .hbm, ⟨7, _⟩ => ⟨S8192x4096, .f32⟩
  | .hbm, ⟨8, _⟩ => ⟨S32x4096, .f32⟩
  | .hbm, ⟨9, _⟩ => ⟨S32x128, .f32⟩
  | .hbm, ⟨10, _⟩ => ⟨S32x128, .f32⟩
  | .hbm, ⟨11, _⟩ => ⟨S1x4096, .f32⟩
  | .hbm, ⟨12, _⟩ => ⟨S8192x4096, .f32⟩
  | .hbm, ⟨13, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S32x4096, .f32⟩
  | .local _ .vmem, ⟨3, _⟩ => ⟨S32x4096, .f32⟩
  | .local _ .vmem, ⟨4, _⟩ => ⟨S32x128, .f32⟩
  | .local _ .vmem, ⟨5, _⟩ => ⟨S32x128, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | .local _ .vmem, ⟨9, _⟩ => ⟨S4096x4096, .bf16⟩
  | .local _ .vmem, ⟨10, _⟩ => ⟨S1x4096, .f32⟩
  | .local _ .vmem, ⟨11, _⟩ => ⟨S2x256x4096, .bf16⟩
  | .local _ .vmem, ⟨12, _⟩ => ⟨S4x64x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![33], ![false]⟩

def k0_off1 (i : grid0.Coords) : Fin 3 → Nat :=
  let arg0 : BitVec 32 := BitVec.ofNat 32 (i 0).val
  let c1_i32 : BitVec 32 := 1#32
  let v4 : BitVec 32 := Scalar.addi arg0 c1_i32
  let c2_i32_1 : BitVec 32 := 2#32
  let v5 : BitVec 32 := Scalar.remsi v4 c2_i32_1
  let v6 : Index := Scalar.indexCast v5
  let c0 : Index := 0#32
  let c0_2 : Index := 0#32
  ![v6.toNat, 0, 0]
def k0_off2 (i : grid0.Coords) : Fin 3 → Nat :=
  let arg0 : BitVec 32 := BitVec.ofNat 32 (i 0).val
  let c2_i32 : BitVec 32 := 2#32
  let v3 : BitVec 32 := Scalar.remsi arg0 c2_i32
  let v36 : Index := Scalar.indexCast v3
  let c0_16 : Index := 0#32
  let c0_17 : Index := 0#32
  ![v36.toNat, 0, 0]
def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x2048x4096 : Shape := ⟨3, ![4, 2048, 4096]⟩
abbrev S4096 : Shape := ⟨1, ![4096]⟩
abbrev S4096x4096 : Shape := ⟨2, ![4096, 4096]⟩
abbrev S4096x32 : Shape := ⟨2, ![4096, 32]⟩
abbrev S32x4096 : Shape := ⟨2, ![32, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S32x4x2048 : Shape := ⟨3, ![32, 4, 2048]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4096, .f32⟩
  | .hbm, ⟨3, _⟩ => ⟨S4096x4096, .f32⟩
  | .hbm, ⟨4, _⟩ => ⟨S4096x32, .f32⟩
  | .hbm, ⟨5, _⟩ => ⟨S32x4096, .f32⟩
  | .hbm, ⟨6, _⟩ => ⟨S4096, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x4096, .f32⟩
  | .hbm, ⟨14, _⟩ => ⟨S4x2048x4096, .f32⟩
  | .hbm, ⟨15, _⟩ => ⟨S4x2048x4096, .f32⟩
  | .hbm, ⟨16, _⟩ => ⟨S_, .f32⟩
  | .hbm, ⟨17, _⟩ => ⟨S4x2048, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x4096, .f32⟩
  | .hbm, ⟨23, _⟩ => ⟨S4x2048x4096, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1, .f32⟩
  | .hbm, ⟨28, _⟩ => ⟨S4x2048x4096, .f32⟩
  | .hbm, ⟨29, _⟩ => ⟨S4x2048x4096, .f32⟩
  | .hbm, ⟨30, _⟩ => ⟨S1x1x4096, .f32⟩
  | .hbm, ⟨31, _⟩ => ⟨S4x2048x4096, .f32⟩
  | .hbm, ⟨32, _⟩ => ⟨S4x2048x4096, .f32⟩
  | .hbm, ⟨33, _⟩ => ⟨S1x1x4096, .f32⟩
  | .hbm, ⟨34, _⟩ => ⟨S4x2048x4096, .f32⟩
  | .hbm, ⟨35, _⟩ => ⟨S4x2048x4096, .f32⟩
  | .hbm, ⟨36, _⟩ => ⟨S4x2048x4096, .f32⟩
  | .hbm, ⟨37, _⟩ => ⟨S32x4x2048, .f32⟩
  | .hbm, ⟨38, _⟩ => ⟨S4x2048x4096, .f32⟩
  | .hbm, ⟨39, _⟩ => ⟨S4x2048x4096, .f32⟩
  | .hbm, ⟨40, _⟩ => ⟨S1x1x4096, .f32⟩
  | .hbm, ⟨41, _⟩ => ⟨S4x2048x4096, .f32⟩
  | .hbm, ⟨42, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Proof.AsPrinted.Runs.lean ====
/- The kernel as printed, over any float values: what its frame proof shares — the arrays where its region starts, each window's block,
   the branch condition in closed form, the scratch buffers and semaphores. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffixR
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.AsPrinted

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v6}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (Pipeline.UD sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg6`: it ends as launched. -/
theorem W_main_arg6 (dats : (p : Fin _) → (c : Dev nD) → Dat τ (Elt F) Unit ℕ (Pipeline.UD sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      (Pipeline.RDat.FramePostR.arr_in h c 2 rfl).trans ((hA c 2).trans (V_main_arg5 m c)),
      ((h c).2 main_arg6 (Finset.mem_sdiff.mpr ⟨Pipeline.mem_restRefs_of main_arg6 (by decide) (by decide), by decide⟩)).trans (V_main_arg6 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_0, e0]
    word_cmp
   : ∀ t : Fin grid0.N, cond0_0 (grid0.coords t) ↔ t.val % 33 = 0)

/-! ## The kernel body on any staging memrefs: a subtype the run finds -/

/-- Each window's current staging memref at point `t`, spelled as the pipeline passes it (`bodyAt0`), and its wholeness. -/
abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x4096 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S4096x4096 .bf16 := Memref.whole cc0_scratch0
abbrev scM0_1 : Memref sig .tc .vmem S1x4096 .f32 := Memref.whole cc0_scratch1
abbrev scM0_2 : Memref sig .tc .vmem S2x256x4096 .bf16 := Memref.whole cc0_scratch2
abbrev scM0_3 : Memref sig .tc .vmem S4x64x4096 .f32 := Memref.whole cc0_scratch3
/-- The operands left in HBM that the body copies into scratch itself, whole. -/
abbrev hbM0_0 : Memref sig .tc .hbm S4096x4096 .f32 := Memref.whole main_arg3
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 4 → SemLoc sig := fun j => (![SemLoc.dma 9, SemLoc.dma 10, SemLoc.dma 11, SemLoc.dma 12] : Fin 4 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) := by
  rw [Pipeline.ownSems0_eq_of_list c osem0 [0, 1, 2, 3] (by decide) (by decide)]; rfl
/-- The HBM operands the body moves, as references: unscoped, no window's array (`Pipeline.restRefs`). -/
def H0 : Finset (Ref sig .tc) := {main_arg3}
theorem H0_sub : H0 ⊆ Pipeline.restRefs sig spec0 := by decide
/-- The lines after the region touch none of the operands the body moves: each operation's buffers are unscoped
    TensorCore references, none of them in `H0` (`Pipeline.sub_tailRefsBut`). -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg3)) := by
  rw [BI.bigSep_eq_bigSepL_of_eq [main_arg3] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) ∗ iprop(hbPt0 c hbM0_0 (V m c main_arg3))) := by
  rw [Pipeline.ΦD_eq, scopedRest0_eq, ownSems00_eq, hbmPts0_eq]; simp only [scM0_0, scM0_1, scM0_2, scM0_3, owns_whole]; try rfl

end Cert.Kernel.AsPrinted

end
-- ==== Proof.AsPrinted.RunA.lean ====
/- The kernel as printed, at the first grid point: the body runs and hands every buffer back. -/
module

public import proofs.«01_k».proof.Proof.AsPrinted.Runs

@[expose] public section

-- membership in a rectangle of production extents (`View.cover_of_tiled`): the elaborator's structural look
-- recurses once per coordinate of the long axes
set_option maxRecDepth 16384

noncomputable section

namespace Cert.Kernel.AsPrinted

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 6268000 in set_option sl_exec.dmaWindow true in set_option sl_exec.dmaWindowSet true in
/-- The body's triple IN CASE A (`scf.if` 0 taken: points 0): on whole staging memrefs — the inputs' at their contents,
    the FORGOTTEN outputs' (6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S256x4096 .f32) (harg1 : arg1.IsWhole) (arg3 : Memref sig .tc .vmem S32x4096 .f32) (harg3 : arg3.IsWhole) (arg4 : Memref sig .tc .vmem S32x4096 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S1x4096 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S1x4096 .f32) (harg10 : arg10.IsWhole) (arg11 : Memref sig .tc .vmem S2x256x4096 .bf16) (harg11 : arg11.IsWhole) (arg12 : Memref sig .tc .vmem S4x64x4096 .f32) (harg12 : arg12.IsWhole) (hc0 : cond0_0 i)
    (x0 : Vec F S256x4096 .f32) (x1 : Vec F S32x4096 .f32) (x2 : Vec F S32x4096 .f32) (x3 : Vec F S32x128 .f32) (x4 : Vec F S32x128 .f32) (x5 : Vec F S1x4096 .f32) (fh0 : HbBuf0 (F := F) c hbM0_0) :
      ∀ (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ (∃ W', owes (c : Thread nD τ) 0 W')) -∗ K ⟨⟩))
          ⊢ wp frame (wpE (defs₀ (F := F)) Variants.none c none) Set.univ (cc0_ln_dense_fold i arg1 harg1 (Memref.whole main_arg3) (Memref.isWhole_whole _) arg3 harg3 arg4 harg4 arg5 harg5 arg6 harg6 arg7 harg7 arg8 harg8 arg9 harg9 arg10 harg10 arg11 harg11 arg12 harg12 cc0_scratch4) K := by
    intro W K
    simp only [cc0_ln_dense_fold_eq_skeleton]; unfold cc0_ln_dense_fold_skel
    simp only [k0_part70_eq_skeleton, k0_part69_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, Hq0, Hq1, Hq2, Hq3, Hh0, HW, Hk⟩
    obtain rfl := harg1.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hq2]; · iexact Hq2
    isplitl [Hq3]; · iexact Hq3
    isplitl [Hh0]; · iexact Hh0
    iexists _; iexact HW

end Cert.Kernel.AsPrinted

end
-- ==== Proof.AsPrinted.RunB.lean ====
/- The kernel as printed, at a later grid point: the body runs and hands every buffer back. -/
module

public import proofs.«01_k».proof.Proof.AsPrinted.RunA

@[expose] public section

-- membership in a rectangle of production extents (`View.cover_of_tiled`): the elaborator's structural look
-- recurses once per coordinate of the long axes
set_option maxRecDepth 16384

noncomputable section

namespace Cert.Kernel.AsPrinted

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points 1, 2, … 32: 32 of 33): on whole staging memrefs — the inputs' at their contents,
    the FORGOTTEN outputs' (6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S256x4096 .f32) (harg1 : arg1.IsWhole) (arg3 : Memref sig .tc .vmem S32x4096 .f32) (harg3 : arg3.IsWhole) (arg4 : Memref sig .tc .vmem S32x4096 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S1x4096 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S1x4096 .f32) (harg10 : arg10.IsWhole) (arg11 : Memref sig .tc .vmem S2x256x4096 .bf16) (harg11 : arg11.IsWhole) (arg12 : Memref sig .tc .vmem S4x64x4096 .f32) (harg12 : arg12.IsWhole) (hc0 : ¬cond0_0 i)
    (x0 : Vec F S256x4096 .f32) (x1 : Vec F S32x4096 .f32) (x2 : Vec F S32x4096 .f32) (x3 : Vec F S32x128 .f32) (x4 : Vec F S32x128 .f32) (x5 : Vec F S1x4096 .f32) (fh0 : HbBuf0 (F := F) c hbM0_0) :
      ∀ (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ (∃ W', owes (c : Thread nD τ) 0 W')) -∗ K ⟨⟩))
          ⊢ wp frame (wpE (defs₀ (F := F)) Variants.none c none) Set.univ (cc0_ln_dense_fold i arg1 harg1 (Memref.whole main_arg3) (Memref.isWhole_whole _) arg3 harg3 arg4 harg4 arg5 harg5 arg6 harg6 arg7 harg7 arg8 harg8 arg9 harg9 arg10 harg10 arg11 harg11 arg12 harg12 cc0_scratch4) K := by
    intro W K
    simp only [cc0_ln_dense_fold_eq_skeleton]; unfold cc0_ln_dense_fold_skel
    simp only [k0_part70_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, Hq0, Hq1, Hq2, Hq3, Hh0, HW, Hk⟩
    obtain rfl := harg1.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hq2]; · iexact Hq2
    isplitl [Hq3]; · iexact Hq3
    isplitl [Hh0]; · iexact Hh0
    iexists _; iexact HW

end Cert.Kernel.AsPrinted

end
-- ==== Proof.AsPrinted.Frame.lean ====
/- The kernel as printed, over any float values: it terminates, its arguments end unchanged and every counter ends at zero. -/
module

public import proofs.«01_k».proof.Proof.AsPrinted.RunB
public import Idealize.ShloMosaic.Lib.Claim

@[expose] public section

-- membership in a rectangle of production extents (`View.cover_of_tiled`): the elaborator's structural look
-- recurses once per coordinate of the long axes
set_option maxRecDepth 16384

noncomputable section

namespace Cert.Kernel.AsPrinted

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The pipeline's proof data -/

/-- The output windows this certificate FORGETS (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the outputs, FORGOTTEN, at `Dat.unnamed`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 1600000 in
/-- The body at any point: the inputs' memrefs hold their blocks (`before0_W`); the closed forms say which case the point is in (`by_cases`), an output the case reads before covering holds what the point before left (`before0_W_κ`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    after0_0, after0_1, after0_2, after0_3, after0_4, after0_5]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  have hN : t.val < 33 := lt_of_lt_of_eq t.isLt (show cfg0.N = 33 from N_0)
  by_cases h0 : t.val % 33 = 0
  · iintro ⟨⟨⟨HS0, HS1, HS2, HS3⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (V m c main_arg3)) W _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hq2]; · iexact Hq2
    isplitl [Hq3]; · iexact Hq3
    isplitl [Hh0]; · iexact Hh0
    isplitl [HW]; · iexact HW
    iintro ⟨H0, H1, H2, H3, H4, H5, H6, HS0, HS1, HS2, HS3, Hq0, Hq1, Hq2, Hq3, Hh0, ⟨%W', HW'⟩⟩
    isplitl [HS0 HS1 HS2 HS3 Hg Hq0 Hq1 Hq2 Hq3 Hh0]
    · isplitl [HS0 HS1 HS2 HS3]
      · isplitl [HS0]; · iexact HS0
        isplitl [HS1]; · iexact HS1
        isplitl [HS2]; · iexact HS2
        iexact HS3
      isplitl [Hg]
      · iexact Hg
      isplitl [Hq0 Hq1 Hq2 Hq3]
      · isplitl [Hq0]; · iexact Hq0
        isplitl [Hq1]; · iexact Hq1
        isplitl [Hq2]; · iexact Hq2
        iexact Hq3
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · iintro ⟨⟨⟨HS0, HS1, HS2, HS3⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (V m c main_arg3)) W _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hq2]; · iexact Hq2
    isplitl [Hq3]; · iexact Hq3
    isplitl [Hh0]; · iexact Hh0
    isplitl [HW]; · iexact HW
    iintro ⟨H0, H1, H2, H3, H4, H5, H6, HS0, HS1, HS2, HS3, Hq0, Hq1, Hq2, Hq3, Hh0, ⟨%W', HW'⟩⟩
    isplitl [HS0 HS1 HS2 HS3 Hg Hq0 Hq1 Hq2 Hq3 Hh0]
    · isplitl [HS0 HS1 HS2 HS3]
      · isplitl [HS0]; · iexact HS0
        isplitl [HS1]; · iexact HS1
        isplitl [HS2]; · iexact HS2
        iexact HS3
      isplitl [Hg]
      · iexact Hg
      isplitl [Hq0 Hq1 Hq2 Hq3]
      · isplitl [Hq0]; · iexact Hq0
        isplitl [Hq1]; · iexact Hq1
        isplitl [Hq2]; · iexact Hq2
        iexact Hq3
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_dma_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_dma_around_T_forget (Q' := _) cfgs (dats m) (0 : Fin 1) launch0 osem0 defs₀ Variants.none forgets0 ownSemFacts0 H0 T0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps) (hT := sfx_writes)
    (hmain := hmain m Variants.none) (hA := A_eq m) (hin := fun _ => .rfl) (hout := fun _ => .rfl)

/-- At the compiled mesh, for any values, from any memory with zero counters: every weakly fair execution of @main on the
    TensorCores terminates, and every final state has every INPUT array of the pipeline unchanged, nothing stated of the
    FORGOTTEN outputs (window 6) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.AsPrinted

end
-- ==== Proof.Setup.lean ====
/- What the proof of the folding kernel's run is stated over: the pipeline with its result window idle at the first
   point, the kernel's own scratch buffers, semaphores and HBM operand, and the four slots of its copy ring. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.FrameSuffix
public import Idealize.ShloMosaic.Lib.Ring
public import Idealize.ShloMosaic.Lib.Ring.AtN
public import Idealize.ShloMosaic.Lib.Tactic
public import Idealize.ShloMosaic.Lib.WordCmp

@[expose] public section

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg PCfg)

variable {F : FTy → Type} [FloatOps F]

local notation "𝕄" => MT nD τ sig Unit (Elt F) ℕ (Pipeline.UD sig nD τ) ℕ

variable (m : (ℓ : Loc nD τ sig) → Buf (Elt F) ℓ)

/-! ## The pipeline, its result window idle at the first point -/

/-- The pipeline's configuration, with the result window declared idle at the first grid point: what the body leaves there
    is computed from scratch nothing has stored, and the next point stores the same block again. -/
abbrev cfgI : Cfg sig Λ₀ where
  grid := grid0
  W := 7
  win := win0
  body := 0
  bodyArgs t s := (t, s)
  idle w i := decide (w.val = 6 ∧ (i 0).val = 0)

/-- It is the program's one pipeline. -/
abbrev cfgsI : Fin 1 → Cfg sig Λ₀ := fun _ => cfgI

/-- The launch's facts about the pipeline: they read nothing of which points are idle. -/
theorem launchI : Pipeline.LaunchFacts (nD := nD) (τ := τ) cfgsI 0 := ⟨cellOf_inj, winFacts0, block_pos0, arr_whole0, stage_whole0⟩

section
variable {P : Type} {A : P → Type} (cfg : Cfg sig Λ₀) (e : Fin cfg.W → cfg.grid.Coords → Bool)

local notation "𝔼" => TpuEff nD τ sig (Elt F) (Pipeline.Sig Λ₀ P A) Proc.tc

/-- A configuration with its idle points replaced by `e`. -/
abbrev withIdle : Cfg sig Λ₀ := { cfg with idle := e }

theorem point_idle (t d : Nat) : (withIdle cfg e).point t d = cfg.point t d := rfl
theorem atPoint_idle (t d : Nat) (f : Fin cfg.N → Prog 𝔼 PUnit → Prog 𝔼 PUnit) (k : Prog 𝔼 PUnit) :
    (withIdle cfg e).atPoint t d f k = cfg.atPoint t d f k := by
  by_cases h : d ≤ t ∧ t - d < cfg.N
  · have h₁ : cfg.point t d = some ⟨t - d, h.2⟩ := dif_pos h
    have h₂ : (withIdle cfg e).point t d = some ⟨t - d, h.2⟩ := h₁
    unfold Cfg.atPoint; rw [h₁, h₂]
  · have h₁ : cfg.point t d = none := dif_neg h
    have h₂ : (withIdle cfg e).point t d = none := h₁
    unfold Cfg.atPoint; rw [h₁, h₂]
theorem atPoint_congr {t d : Nat} {f g : Fin cfg.N → Prog 𝔼 PUnit → Prog 𝔼 PUnit} {k l : Prog 𝔼 PUnit} (hf : f = g) (hk : k = l) :
    (withIdle cfg e).atPoint t d f k = cfg.atPoint t d g l := by subst hf hk; exact atPoint_idle cfg e t d f k
theorem eachWin_idle (p : Fin cfg.W → Bool) (f : Fin cfg.W → Prog 𝔼 PUnit → Prog 𝔼 PUnit) (k : Prog 𝔼 PUnit) :
    (withIdle cfg e).eachWin p f k = cfg.eachWin p f k := rfl
theorem fetchIn_idle (w : Fin cfg.W) (t : Fin cfg.N) (k : Prog 𝔼 PUnit) : (withIdle cfg e).fetchIn w t k = cfg.fetchIn w t k := rfl
theorem waitIn_idle (w : Fin cfg.W) (t : Fin cfg.N) : ((withIdle cfg e).waitIn w t : 𝔼 PUnit) = cfg.waitIn w t := rfl
theorem startOut_idle (w : Fin cfg.W) (t : Fin cfg.N) : ((withIdle cfg e).startOut w t : 𝔼 PUnit) = cfg.startOut w t := rfl
theorem waitOut_idle (w : Fin cfg.W) (t : Fin cfg.N) : ((withIdle cfg e).waitOut w t : 𝔼 PUnit) = cfg.waitOut w t := rfl
theorem prologue_idle : (withIdle cfg e).prologue = cfg.prologue := rfl
theorem tripCount_idle : (withIdle cfg e).tripCount = cfg.tripCount := rfl
end

/-- Which points are idle enters no iteration of the loop. -/
theorem iter_idle {P : Type} {A : P → Type} (cfg : Cfg sig Λ₀) (e : Fin cfg.W → cfg.grid.Coords → Bool) (p : P) (a : A p) (ℓ : Nat) :
    Cfg.iter (Val := Elt F) (τ := τ) (nD := nD) (withIdle cfg e) p a ℓ = Cfg.iter cfg p a ℓ := by
  unfold Cfg.iter
  refine atPoint_congr cfg e (funext fun _ => rfl) (atPoint_congr cfg e (funext fun _ => rfl) (atPoint_congr cfg e (funext fun _ => rfl) (atPoint_congr cfg e (funext fun _ => rfl) ?_)))
  rfl

/-- So a body table does not read it. -/
theorem defs_idle (cf : Fin 1 → Cfg sig Λ₀) (e : ∀ q, Fin (cf q).W → (cf q).grid.Coords → Bool) :
    Pipeline.defs (fun q => Cfg.toPCfg (Val := Elt F) (withIdle (cf q) (e q))) defs₀ = Pipeline.defs (fun q => Cfg.toPCfg (Val := Elt F) (cf q)) defs₀ := by
  funext pr l a
  match pr, l, a with
  | pr, .inl ℓ, a => rfl
  | .tc, .inr (.entry p), a => rfl
  | .tc, .inr (.pipe p), (a, t) =>
    have h₁ : (Cfg.toPCfg (Val := Elt F) (withIdle (cf p) (e p))).at a = withIdle (cf p) (e p) := rfl
    have h₂ : (Cfg.toPCfg (Val := Elt F) (cf p)).at a = cf p := rfl
    change Cfg.iter (A := fun q => (Cfg.toPCfg (Val := Elt F) (cf q)).Adm) ((Cfg.toPCfg (Val := Elt F) (withIdle (cf p) (e p))).at a) p a t
      = Cfg.iter (A := fun q => (Cfg.toPCfg (Val := Elt F) (cf q)).Adm) ((Cfg.toPCfg (Val := Elt F) (cf p)).at a) p a t
    rw [h₁, h₂]
    exact iter_idle (A := fun q => (Cfg.toPCfg (Val := Elt F) (cf q)).Adm) (cf p) (e p) p a t
  | .scScalar _, .inr (.entry p), a => rfl
  | .scScalar _, .inr (.pipe p), a => rfl
  | .scVector _ _, .inr (.entry p), a => rfl
  | .scVector _ _, .inr (.pipe p), a => rfl

/-- The body table with that configuration is the program's. -/
theorem defsI_eq : Pipeline.defs (fun q => Cfg.toPCfg (Val := Elt F) (cfgsI q)) defs₀ = defs (F := F) :=
  defs_idle cfgs fun _ => cfgI.idle

/-! ## The kernel's own buffers -/

/-- The scratch holding the folded weights, -/
abbrev scW : Memref sig .tc .vmem S4096x4096 .bf16 := Memref.whole cc0_scratch0
/-- the folded bias, -/
abbrev scB : Memref sig .tc .vmem S1x4096 .f32 := Memref.whole cc0_scratch1
/-- the two normalized row blocks, -/
abbrev scY : Memref sig .tc .vmem S2x256x4096 .bf16 := Memref.whole cc0_scratch2
/-- and the four slots of the copy ring. -/
abbrev scR : Memref sig .tc .vmem S4x64x4096 .f32 := Memref.whole cc0_scratch3
/-- The weights, left in HBM. -/
abbrev hbW : Memref sig .tc .hbm S4096x4096 .f32 := Memref.whole main_arg3

/-- The weights' buffer on core `c`: its contents, and it held whole at `f`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The ring's semaphores. -/
abbrev osem : Fin 4 → SemLoc sig := fun j => (![SemLoc.dma 9, SemLoc.dma 10, SemLoc.dma 11, SemLoc.dma 12] : Fin 4 → SemLoc sig) j
theorem osemFacts : Pipeline.OwnSemFacts spec0 osem := by decide

/-- The semaphores at zero, one by one. -/
theorem osem0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) := by
  rw [Pipeline.ownSems0_eq_of_list c osem [0, 1, 2, 3] (by decide) (by decide)]; rfl

/-- The buffers in HBM the body copies from. -/
def HB : Finset (Ref sig .tc) := {main_arg3}
theorem HB_sub : HB ⊆ Pipeline.restRefs sig spec0 := by decide

/-- Them at the region-entry contents. -/
theorem hbPts_eq (c : Dev nD) :
    (bigSep HB (fun b => ((c : Thread nD τ).loc b) ↦{fullShare} V m c b) : sProp 𝕄) = iprop(hbPt c hbW (V m c main_arg3)) := by
  rw [BI.bigSep_eq_bigSepL_of_eq [main_arg3] (by decide) (by decide)]; rfl

/-- What the launch hands the kernel beside its windows: the four scratch buffers at some contents, the generator's register,
    the semaphores at zero, the weights. -/
theorem entry_eq (c : Dev nD) :
    (Pipeline.ΦD osem spec0 HB (V m) c : sProp 𝕄)
      = iprop(iprop((∃ d, owns (c : Thread nD τ) scW fullShare d) ∗ (∃ d, owns (c : Thread nD τ) scB fullShare d) ∗ (∃ d, owns (c : Thread nD τ) scY fullShare d) ∗ (∃ d, owns (c : Thread nD τ) scR fullShare d))
          ∗ (∃ r, prngReg c r)
          ∗ iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0)
          ∗ hbPt c hbW (V m c main_arg3)) := by
  rw [Pipeline.ΦD_eq, scopedRest0_eq, osem0_eq, hbPts_eq]; simp only [scW, scB, scY, scR, owns_whole]; try rfl

/-! ## The grid's two cases -/

/-- The body's branch condition: the grid coordinate is zero. -/
abbrev isFirst (i : grid0.Coords) : Prop := (Scalar.cmpi .ne (Scalar.extui (Scalar.cmpi .eq (BitVec.ofNat 32 (i 0).val) 0#32)) 0#32) = 1#1

theorem coord_val (t : Fin cfgI.N) : (grid0.coords t 0).val = t.val := by
  have ht : t.val < 33 := Nat.lt_of_lt_of_eq t.isLt N_0
  rw [show (grid0.coords t 0).val = t.val / 1 % 33 from Pipeline.Grid.coords_val t 0 (by decide) rfl]; omega

/-- It holds at the first point only. -/
theorem isFirst_iff (t : Fin cfgI.N) : isFirst (grid0.coords t) ↔ t.val = 0 := by
  have ht : t.val < 33 := Nat.lt_of_lt_of_eq t.isLt N_0
  simp only [isFirst, coord_val]
  word_cmp

/-! ## The ring's slots -/

/-- Slot `k`'s elements of the ring buffer `M`. -/
abbrev slotRect (k : Fin 4) : Rect S4x64x4096 := Rect.unit (s := S4x64x4096) ![k.val, 0, 0] S1x64x4096.size (by
  fin_cases k <;> intro a <;> fin_cases a <;> decide)

end Cert.KernelIdeal.Fold

end
-- ==== Proof.Fold.lean ====
/- The values the folding step computes, chunk by chunk of 64 rows: the scaled weights and the folded bias, and the facts that
   read them out of what the step's loads and stores leave. -/
module

public import proofs.«01_k».proof.Proof.Setup
public import Idealize.ShloMosaic.Lib.VecWindow
public import Idealize.ShloMosaic.Lib.WholeRead
public import Idealize.ShloMosaic.Lib.Writes

@[expose] public section

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)

variable {F : FTy → Type} [FloatOps F]

local notation "𝕄" => MT nD τ sig Unit (Elt F) ℕ (Pipeline.UD sig nD τ) ℕ

/-! ## The chunks' operands -/

/-- Chunk `k`'s 64 columns of the first factor. -/
def cols (x : Vec F S32x4096 .f32) (k : Fin 64) : Vec F S32x64 .f32 :=
  VecWindow.window x ![0, 64 * k.val] S32x64.size (by have := k.isLt; intro a; fin_cases a <;> simp [S32x4096, S32x64] <;> omega)

/-- Chunk `k`'s 64 entries of a per-row vector, laid out 128 to a row. -/
def lane (x : Vec F S32x128 .f32) (k : Fin 64) : Vec F S1x64 .f32 :=
  VecWindow.window x ![k.val / 2, 64 * (k.val % 2)] S1x64.size (by have := k.isLt; intro a; fin_cases a <;> simp [S32x128, S1x64] <;> omega)

/-- Chunk `k`'s 64 rows of the weights. -/
def rowsOf (W : Vec F S4096x4096 .f32) (k : Fin 64) : Vec F S64x4096 .f32 :=
  VecWindow.window W ![64 * k.val, 0] S64x4096.size (by have := k.isLt; intro a; fin_cases a <;> simp [S4096x4096, S64x4096] <;> omega)

/-- A block of rows as a ring slot holds it, with a leading unit axis. -/
def slotOf (v : Vec F S64x4096 .f32) : Vec F S1x64x4096 .f32 := fun j => v ((Shape.reshapeEquiv squeezes_S1x64x4096_S64x4096.numel_eq).symm j)

/-- The normalized block the step at `i` stores into the scratch pair `d`, and the one it reads. -/
def yNow (i : grid0.Coords) (d : Vec F S2x256x4096 .bf16) : Vec F S1x256x4096 .bf16 := VecWindow.window (s := S2x256x4096) d (k0_off2 i) S1x256x4096.size (k0_off2_inb i)
def yPrev (i : grid0.Coords) (d : Vec F S2x256x4096 .bf16) : Vec F S1x256x4096 .bf16 := VecWindow.window (s := S2x256x4096) d (k0_off1 i) S1x256x4096.size (k0_off1_inb i)

/-! ## What the step computes -/

/-- A block of rows, each shifted by its mean and scaled by its reciprocal deviation, as the scratch holds it. -/
abbrev normX (x : Vec F S256x4096 .f32) : Vec F S1x256x4096 .bf16 := k0_pay1 (k0_pay243 x)

/-- A result block: normalized rows times the scaled weights, plus the folded bias. -/
abbrev outX (y : Vec F S1x256x4096 .bf16) (w : Vec F S4096x4096 .bf16) (b : Vec F S1x4096 .f32) : Vec F S256x4096 .f32 := k0_pay242 y w b

/-- Chunk `k` of the scaled weights: the weights' rows plus the low-rank product's, each row times its scale. -/
def chunkW (xa xb : Vec F S32x4096 .f32) (W : Vec F S4096x4096 .f32) (s : Vec F S32x128 .f32) (k : Fin 64) : FVec F S64x4096 .bf16 :=
  k0_pay4 (cols xa k) xb (slotOf (rowsOf W k)) (lane s k)

/-- The chunk a row lies in, and the row's place in it. -/
def chunkOf (j : S4096x4096.Idx) : Fin 64 := ⟨(j 0).val / 64, by have : (j 0).val < 4096 := (j 0).isLt; omega⟩
def placeIn (j : S4096x4096.Idx) : S64x4096.Idx := fun a => match a with
  | ⟨0, _⟩ => ⟨(j 0).val % 64, Nat.mod_lt _ (by decide)⟩
  | ⟨1, _⟩ => j 1

/-- The scaled weights, all chunks. -/
def foldW (xa xb : Vec F S32x4096 .f32) (W : Vec F S4096x4096 .f32) (s : Vec F S32x128 .f32) : Vec F S4096x4096 .bf16 :=
  fun j => chunkW xa xb W s (chunkOf j) (placeIn j)

/-- The folded bias after the first `k` chunks: the bias, plus each chunk's rows times their own bias summed. -/
def accB (xa xb : Vec F S32x4096 .f32) (W : Vec F S4096x4096 .f32) (l : Vec F S32x128 .f32) (b : Vec F S1x4096 .f32) : ℕ → FVec F S1x4096 .f32
  | 0 => k0_pay2 b
  | k + 1 => k0_pay5 (accB xa xb W l b k) (cols xa (Fin.ofNat 64 k)) xb (slotOf (rowsOf W (Fin.ofNat 64 k))) (lane l (Fin.ofNat 64 k))

/-- The folded bias, all chunks. -/
def foldB (xa xb : Vec F S32x4096 .f32) (W : Vec F S4096x4096 .f32) (l : Vec F S32x128 .f32) (b : Vec F S1x4096 .f32) : Vec F S1x4096 .f32 :=
  shapeCast S1x4096 (accB xa xb W l b 64) shapeCasts_S1x4096_S1x4096

/-! ## Reading the operands -/

/-- A load of 64 columns of a whole operand is the chunk's. -/
theorem read_cols {m : Memref sig .tc .vmem S32x4096 .f32} (h : m.IsWhole) (x : Vec F S32x4096 .f32) (k : Fin 64) {o : ℕ} (inb) (ho : o = 64 * k.val) :
    View.readAt (Elt F) m.view (Rect.unit (s := S32x4096) ![0, o] S32x64.size inb).toLoadRect (h.unread x) = cols x k := by
  subst ho
  rw [View.readAt_unit m.view _ _ rfl inb, h.read_unread]; rfl

/-- A load of a whole operand is the operand. -/
theorem read_all {m : Memref sig .tc .vmem S32x4096 .f32} (h : m.IsWhole) (x : Vec F S32x4096 .f32) (inb) :
    View.readAt (Elt F) m.view (Rect.unit (s := S32x4096) ![0, 0] S32x4096.size inb).toLoadRect (h.unread x) = x := by
  rw [View.readAt_full, h.read_unread]

/-- A load of 64 entries of a whole per-row vector is the chunk's. -/
theorem read_lane {m : Memref sig .tc .vmem S32x128 .f32} (h : m.IsWhole) (x : Vec F S32x128 .f32) (k : Fin 64) {p q : ℕ} (inb)
    (hp : p = k.val / 2) (hq : q = 64 * (k.val % 2)) :
    View.readAt (Elt F) m.view (Rect.unit (s := S32x128) ![p, q] S1x64.size inb).toLoadRect (h.unread x) = lane x k := by
  subst hp hq
  rw [View.readAt_unit m.view _ _ rfl inb, h.read_unread]; rfl

/-- A load of a ring slot on which a copy of 64 rows of the weights has landed is those rows. -/
theorem read_slot (M : Memref sig .tc .vmem S4x64x4096 .f32) (W : main_arg3.ty.Contents (Elt F)) (g : M.view.ty.Contents (Elt F)) (k : Fin 64) {z o : ℕ} (inb inb' pf pf') (ho : o = 64 * k.val) :
    View.readAt (Elt F) M.view (Rect.unit (s := S4x64x4096) ![z, 0, 0] S1x64x4096.size inb).toLoadRect
        (View.write (Elt F) ((M.slice (Rect.unit (s := S4x64x4096) ![z, 0, 0] S1x64x4096.size inb) pf).squeeze S64x4096 squeezes_S1x64x4096_S64x4096).view g
          (ReadAs.same.apply (View.read (Elt F) ((Memref.whole main_arg3).slice (Rect.unit (s := S4096x4096) ![o, 0] S64x4096.size inb') pf').view W)) Finset.univ)
      = slotOf (rowsOf W k) := by
  subst ho
  rw [View.readAt_rect]
  have e : View.write (Elt F) ((M.slice (Rect.unit (s := S4x64x4096) ![z, 0, 0] S1x64x4096.size inb) pf).squeeze S64x4096 squeezes_S1x64x4096_S64x4096).view g
          (ReadAs.same.apply (View.read (Elt F) ((Memref.whole main_arg3).slice (Rect.unit (s := S4096x4096) ![64 * k.val, 0] S64x4096.size inb') pf').view W)) Finset.univ
      = View.write (Elt F) (M.view.slice (Rect.unit (s := S4x64x4096) ![z, 0, 0] S1x64x4096.size inb)) g (slotOf (rowsOf W k)) Finset.univ :=
    View.write_reshape_univ (M.view.slice (Rect.unit (s := S4x64x4096) ![z, 0, 0] S1x64x4096.size inb)) squeezes_S1x64x4096_S64x4096.numel_eq g _
  rw [e]
  exact View.read_write_univ _ _

/-- The half of the row scratch a step reads, of a whole scratch. -/
theorem read_yPrev {m : Memref sig .tc .vmem S2x256x4096 .bf16} (h : m.IsWhole) (d : Vec F S2x256x4096 .bf16) (i : grid0.Coords) (inb) :
    View.readAt (Elt F) m.view (Rect.unit (s := S2x256x4096) (k0_off1 i) S1x256x4096.size inb).toLoadRect (h.unread d) = yPrev i d := by
  rw [View.readAt_unit m.view _ _ rfl inb, h.read_unread]; rfl

/-- The half of the row scratch a step stores holds what was stored. -/
theorem yNow_stored (v : View sig .tc .vmem S2x256x4096 .bf16) (f : v.ty.Contents (Elt F)) (i : grid0.Coords) (inb) (w : FVec F S1x256x4096 .bf16) (L : List (View.Piece (Elt F) S2x256x4096 .bf16)) :
    yNow i (v.read (Elt F) (v.writes (Elt F) f (⟨Rect.unit (s := S2x256x4096) (k0_off2 i) S1x256x4096.size inb, w⟩ :: L))) = w :=
  funext fun x => View.read_writes_cons_emb v f (Rect.unit (s := S2x256x4096) (k0_off2 i) S1x256x4096.size inb) w L x

/-! ## Reading the results -/

/-- A stored piece of 64 rows that is chunk `k` of the scaled weights agrees with them. -/
theorem piece_foldW (xa xb : Vec F S32x4096 .f32) (W : Vec F S4096x4096 .f32) (s : Vec F S32x128 .f32) (k : Fin 64) {o : ℕ} (inb) (ho : o = 64 * k.val)
    {v : FVec F S64x4096 .bf16} (hv : v = chunkW xa xb W s k) (x : S64x4096.Idx) :
    v x = foldW xa xb W s ((Rect.unit (s := S4096x4096) ![o, 0] S64x4096.size inb).emb x) := by
  subst ho hv
  have h0 : (x 0).val < 64 := (x 0).isLt
  have e0 : (((Rect.unit (s := S4096x4096) ![64 * k.val, 0] S64x4096.size inb).emb x) 0).val = 64 * k.val + 1 * (x 0).val := rfl
  have e1 : (((Rect.unit (s := S4096x4096) ![64 * k.val, 0] S64x4096.size inb).emb x) 1).val = 0 + 1 * (x 1).val := rfl
  unfold foldW
  have hk : chunkOf ((Rect.unit (s := S4096x4096) ![64 * k.val, 0] S64x4096.size inb).emb x) = k := Fin.ext (by
    show (((Rect.unit (s := S4096x4096) ![64 * k.val, 0] S64x4096.size inb).emb x) 0).val / 64 = k.val
    rw [e0]; omega)
  have hx : placeIn ((Rect.unit (s := S4096x4096) ![64 * k.val, 0] S64x4096.size inb).emb x) = x := by
    funext a
    match a with
    | ⟨0, _⟩ => exact Fin.ext (by show (((Rect.unit (s := S4096x4096) ![64 * k.val, 0] S64x4096.size inb).emb x) 0).val % 64 = (x 0).val; rw [e0]; omega)
    | ⟨1, _⟩ => exact Fin.ext (by show (((Rect.unit (s := S4096x4096) ![64 * k.val, 0] S64x4096.size inb).emb x) 1).val = (x 1).val; rw [e1]; omega)
  rw [hk, hx]

/-- A stored chunk computed from the loads' values is the named one. -/
theorem chunkW_of {xa xb : Vec F S32x4096 .f32} {W : Vec F S4096x4096 .f32} {s : Vec F S32x128 .f32} (k : Fin 64)
    {va : Vec F S32x64 .f32} {vb : Vec F S32x4096 .f32} {vw : Vec F S1x64x4096 .f32} {vs : Vec F S1x64 .f32}
    (ha : va = cols xa k) (hb : vb = xb) (hw : vw = slotOf (rowsOf W k)) (hs : vs = lane s k) :
    shapeCast S64x4096 (truncf .bf16 (mulf (addf (shapeCast S64x4096 vw shapeCasts_S1x64x4096_S64x4096) (matmul dot_S32x64_S32x4096_S64x4096_0_0_1_1_n_n none (shapeCast S32x64 va shapeCasts_S32x64_S32x64) vb (constant S64x4096 .f32 0x00000000#32)))
      (broadcastTo S64x4096 (transpose S64x1 [1, 0] (shapeCast S1x64 vs shapeCasts_S1x64_S1x64) transposes_S1x64_p1_0_S64x1) broadcasts_S64x1_S64x4096)) bitsLt_bf16_f32) shapeCasts_S64x4096_S64x4096 = chunkW xa xb W s k := by
  rw [ha, hb, hw, hs]; rfl

/-- The bias after a chunk, from the bias before it and the loads' values. -/
theorem accB_step {xa xb : Vec F S32x4096 .f32} {W : Vec F S4096x4096 .f32} {l : Vec F S32x128 .f32} {b : Vec F S1x4096 .f32} (k : ℕ) (hk : k < 64)
    {v : FVec F S1x4096 .f32} {va : Vec F S32x64 .f32} {vb : Vec F S32x4096 .f32} {vw : Vec F S1x64x4096 .f32} {vl : Vec F S1x64 .f32}
    (ha : va = cols xa ⟨k, hk⟩) (hb : vb = xb) (hw : vw = slotOf (rowsOf W ⟨k, hk⟩)) (hl : vl = lane l ⟨k, hk⟩) (hv : v = accB xa xb W l b k) :
    addf v (shapeCast S1x4096 (multiReduction .add [0] S4096 (mulf (addf (shapeCast S64x4096 vw shapeCasts_S1x64x4096_S64x4096) (matmul dot_S32x64_S32x4096_S64x4096_0_0_1_1_n_n none (shapeCast S32x64 va shapeCasts_S32x64_S32x64) vb (constant S64x4096 .f32 0x00000000#32)))
      (broadcastTo S64x4096 (transpose S64x1 [1, 0] (shapeCast S1x64 vl shapeCasts_S1x64_S1x64) transposes_S1x64_p1_0_S64x1) broadcasts_S64x1_S64x4096)) 0x00000000#32 reduces_S64x4096_S4096 (.inl rfl) rfl) shapeCasts_S4096_S1x4096) = accB xa xb W l b (k + 1) := by
  have hk' : Fin.ofNat 64 k = ⟨k, hk⟩ := Fin.ext (Nat.mod_eq_of_lt hk)
  rw [hv, ha, hb, hw, hl, accB, hk']; rfl

/-- The last chunk's bias, as stored. -/
theorem foldB_last {xa xb : Vec F S32x4096 .f32} {W : Vec F S4096x4096 .f32} {l : Vec F S32x128 .f32} {b : Vec F S1x4096 .f32}
    {v : FVec F S1x4096 .f32} (hv : v = accB xa xb W l b 64) : shapeCast S1x4096 v shapeCasts_S1x4096_S1x4096 = foldB xa xb W l b := by
  rw [hv]; rfl

/-- The stores `L` leave the first `k` chunks of the scaled weights, whatever the buffer held. -/
def RowsDone (v : View sig .tc .vmem S4096x4096 .bf16) (xa xb : Vec F S32x4096 .f32) (W : Vec F S4096x4096 .f32) (s : Vec F S32x128 .f32)
    (L : List (View.Piece (Elt F) S4096x4096 .bf16)) (k : ℕ) : Prop :=
  ∀ (f : v.ty.Contents (Elt F)) (y : S4096x4096.Idx), (y 0).val < 64 * k → v.read (Elt F) (v.writes (Elt F) f L) y = foldW xa xb W s y

theorem rowsDone_nil (v : View sig .tc .vmem S4096x4096 .bf16) (xa xb : Vec F S32x4096 .f32) (W : Vec F S4096x4096 .f32) (s : Vec F S32x128 .f32) :
    RowsDone v xa xb W s [] 0 := fun f y h => absurd h (by omega)

/-- One more chunk stored. -/
theorem rowsDone_cons {v : View sig .tc .vmem S4096x4096 .bf16} {xa xb : Vec F S32x4096 .f32} {W : Vec F S4096x4096 .f32} {s : Vec F S32x128 .f32}
    {L : List (View.Piece (Elt F) S4096x4096 .bf16)} (k : ℕ) (hk : k < 64) {o : ℕ} {inb} (ho : o = 64 * k) {w : FVec F S64x4096 .bf16}
    (hw : w = chunkW xa xb W s ⟨k, hk⟩) (hL : RowsDone v xa xb W s L k) :
    RowsDone v xa xb W s (⟨Rect.unit (s := S4096x4096) ![o, 0] S64x4096.size inb, w⟩ :: L) (k + 1) := by
  intro f y hy
  by_cases h : 64 * k ≤ (y 0).val
  · have hm : y ∈ (Rect.unit (s := S4096x4096) ![o, 0] S64x4096.size inb).set := by
      refine (LoadRect.mem_set _).mpr fun a => ?_
      subst ho
      match a with
      | ⟨0, _⟩ => exact ⟨(y 0).val - 64 * k, by show _ < 64; omega, by show (y 0).val = 64 * k + 1 * _; omega⟩
      | ⟨1, _⟩ => exact ⟨(y 1).val, (y 1).isLt, by show (y 1).val = 0 + 1 * _; omega⟩
    obtain ⟨x, rfl⟩ : ∃ x, (Rect.unit (s := S4096x4096) ![o, 0] S64x4096.size inb).emb x = y := LoadRect.exists_idx_of_mem _ hm
    rw [View.read_writes_cons_emb]
    exact piece_foldW xa xb W s ⟨k, hk⟩ inb ho hw x
  · rw [View.read_writes_cons_miss_of_axis v f _ L y 0 (64 * k) 64 ho rfl rfl (Or.inl (by omega))]
    exact hL f y (by omega)

/-- All chunks stored: the buffer reads the scaled weights. -/
theorem rowsDone_read {v : View sig .tc .vmem S4096x4096 .bf16} {xa xb : Vec F S32x4096 .f32} {W : Vec F S4096x4096 .f32} {s : Vec F S32x128 .f32}
    {L : List (View.Piece (Elt F) S4096x4096 .bf16)} (h : RowsDone v xa xb W s L 64) (f : v.ty.Contents (Elt F)) :
    v.read (Elt F) (v.writes (Elt F) f L) = foldW xa xb W s :=
  funext fun y => h f y (y 0).isLt

end Cert.KernelIdeal.Fold

end
-- ==== Proof.RunA.lean ====
/- The body's run at the first grid point, where the weights are folded. -/
module

public import proofs.«01_k».proof.Proof.Setup
public import proofs.«01_k».proof.Proof.Fold
public import Idealize.ShloMosaic.Lib.Tactic.Stretches

@[expose] public section

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)

variable {F : FTy → Type} [FloatOps F]

local notation "𝕄" => MT nD τ sig Unit (Elt F) ℕ (Pipeline.UD sig nD τ) ℕ

/-- Slot `k` of the ring held at `f`. -/
abbrev slotPt (c : Dev nD) (M : Memref sig .tc .vmem S4x64x4096 .f32) (k : Fin 4) (f : Buf (Elt F) (M.view.loc (c : Thread nD τ))) : sProp 𝕄 :=
  M.view.loc (c : Thread nD τ) ↦[M.view.setOn (slotRect k).set]{fullShare} f

-- (the run's proof term is large: checking it walks past the default budget)
set_option maxHeartbeats 6268000 in set_option sl_exec.dmaWindow true in set_option sl_exec.dmaWindowSet true in
/-- The body at the first point: from the staged inputs at their contents, the ring's slots and the weights, it leaves the scratch holding
    the scaled weights, the folded bias and the first block of rows normalized. -/
theorem runA (c : Dev nD) (i : grid0.Coords) (arg1 : Memref sig .tc .vmem S256x4096 .f32) (harg1 : arg1.IsWhole) (arg3 : Memref sig .tc .vmem S32x4096 .f32) (harg3 : arg3.IsWhole) (arg4 : Memref sig .tc .vmem S32x4096 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S1x4096 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S1x4096 .f32) (harg10 : arg10.IsWhole) (arg11 : Memref sig .tc .vmem S2x256x4096 .bf16) (harg11 : arg11.IsWhole) (arg12 : Memref sig .tc .vmem S4x64x4096 .f32) (harg12 : arg12.IsWhole) (hc0 : isFirst i)
    (x0 : Vec F S256x4096 .f32) (x1 : Vec F S32x4096 .f32) (x2 : Vec F S32x4096 .f32) (x3 : Vec F S32x128 .f32) (x4 : Vec F S32x128 .f32) (x5 : Vec F S1x4096 .f32) (fh : HbBuf (F := F) c hbW)
    (W : Waits sig Unit) (K : PUnit → sProp 𝕄) :
        iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ g, slotPt c arg12 0 g) ∗ (∃ g, slotPt c arg12 1 g) ∗ (∃ g, slotPt c arg12 2 g) ∗ (∃ g, slotPt c arg12 3 g) ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ hbPt c hbW fh ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare (foldW x1 x2 fh x3) ∗ owns (c : Thread nD τ) arg10 fullShare (foldB x1 x2 fh x4 x5) ∗ (∃ d, ⌜yNow i d = normX x0⌝ ∗ owns (c : Thread nD τ) arg11 fullShare d) ∗ (∃ g, slotPt c arg12 0 g) ∗ (∃ g, slotPt c arg12 1 g) ∗ (∃ g, slotPt c arg12 2 g) ∗ (∃ g, slotPt c arg12 3 g) ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ hbPt c hbW fh ∗ (∃ W', owes (c : Thread nD τ) 0 W')) -∗ K ⟨⟩))
          ⊢ wp frame (wpE (defs₀ (F := F)) Variants.none c none) Set.univ (cc0_ln_dense_fold i arg1 harg1 (Memref.whole main_arg3) (Memref.isWhole_whole _) arg3 harg3 arg4 harg4 arg5 harg5 arg6 harg6 arg7 harg7 arg8 harg8 arg9 harg9 arg10 harg10 arg11 harg11 arg12 harg12 cc0_scratch4) K := by
    simp only [cc0_ln_dense_fold_eq_skeleton]; unfold cc0_ln_dense_fold_skel
    simp only [k0_part70_eq_skeleton, k0_part69_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%g0, HR0⟩, ⟨%g1, HR1⟩, ⟨%g2, HR2⟩, ⟨%g3, HR3⟩, Hq0, Hq1, Hq2, Hq3, Hh0, HW, Hk⟩
    obtain rfl := harg1.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _; isplitr; swap; · iexact HS0
      ipureintro
      refine rowsDone_read ?_ _
      iterate 64
        refine rowsDone_cons _ (by decide) rfl ?_ ?_
        · sl_open_run
          exact (chunkW_of (F := F) (xa := x1) (xb := x2) (W := fh) (s := x3) _ (read_cols harg3 x1 _ _ rfl) (read_all harg4 x2 _) (read_slot arg12 fh _ _ _ _ _ _ rfl) (read_lane harg5 x3 _ _ rfl rfl))
      exact rowsDone_nil _ _ _ _ _
    isplitl [HS1]
    · iexists _; isplitr; swap; · iexact HS1
      ipureintro
      refine (View.read_writes_full _ _ _ _ _).trans ?_
      sl_open_run
      refine foldB_last ?_
      iterate 64
        refine (accB_step (F := F) (xa := x1) (xb := x2) (W := fh) (l := x4) (b := x5) _ (by decide) (read_cols harg3 x1 _ _ rfl) (read_all harg4 x2 _) (read_slot arg12 fh _ _ _ _ _ _ rfl) (read_lane harg6 x4 _ _ rfl rfl) ?_)
      exact congrArg k0_pay2 ((View.readAt_full _ _ _).trans (harg7.read_unread _))
    isplitl [HS2]
    · iexists _; isplitr; swap
      · iexists _; isplitr; swap; · iexact HS2
        ipureintro; rfl
      ipureintro
      refine (yNow_stored _ _ _ _ _ _).trans ?_
      sl_open_run
      exact congrArg (fun x => normX x) ((View.readAt_full _ _ _).trans (harg1.read_unread _))
    isplitl [HR0]; · iexists _; iexact HR0
    isplitl [HR1]; · iexists _; iexact HR1
    isplitl [HR2]; · iexists _; iexact HR2
    isplitl [HR3]; · iexists _; iexact HR3
    isplitl [Hq0]; · iexact Hq0
    isplitl [Hq1]; · iexact Hq1
    isplitl [Hq2]; · iexact Hq2
    isplitl [Hq3]; · iexact Hq3
    isplitl [Hh0]; · iexact Hh0
    iexists _; iexact HW

end Cert.KernelIdeal.Fold

end
-- ==== Proof.RunB.lean ====
/- The body's run at a later grid point. -/
module

public import proofs.«01_k».proof.Proof.Setup
public import proofs.«01_k».proof.Proof.Fold
public import Idealize.ShloMosaic.Lib.Tactic.Stretches

@[expose] public section

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)

variable {F : FTy → Type} [FloatOps F]

local notation "𝕄" => MT nD τ sig Unit (Elt F) ℕ (Pipeline.UD sig nD τ) ℕ

set_option maxHeartbeats 1600000 in
/-- The body at a later point: from the scratch at the scaled weights `w`, the folded bias `b` and normalized rows `d`, it stores the block
    of results of the rows normalized at the point before, and normalizes its own. -/
theorem runB (c : Dev nD) (i : grid0.Coords) (arg1 : Memref sig .tc .vmem S256x4096 .f32) (harg1 : arg1.IsWhole) (arg3 : Memref sig .tc .vmem S32x4096 .f32) (harg3 : arg3.IsWhole) (arg4 : Memref sig .tc .vmem S32x4096 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S1x4096 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S1x4096 .f32) (harg10 : arg10.IsWhole) (arg11 : Memref sig .tc .vmem S2x256x4096 .bf16) (harg11 : arg11.IsWhole) (arg12 : Memref sig .tc .vmem S4x64x4096 .f32) (harg12 : arg12.IsWhole) (hc0 : ¬isFirst i)
    (x0 : Vec F S256x4096 .f32) (x1 : Vec F S32x4096 .f32) (x2 : Vec F S32x4096 .f32) (x3 : Vec F S32x128 .f32) (x4 : Vec F S32x128 .f32) (x5 : Vec F S1x4096 .f32) (w : Vec F S4096x4096 .bf16) (b : Vec F S1x4096 .f32) (d : Vec F S2x256x4096 .bf16)
    (W : Waits sig Unit) (K : PUnit → sProp 𝕄) :
        iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare w ∗ owns (c : Thread nD τ) arg10 fullShare b ∗ owns (c : Thread nD τ) arg11 fullShare d ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outX (yPrev i d) w b) ∗ owns (c : Thread nD τ) arg9 fullShare w ∗ owns (c : Thread nD τ) arg10 fullShare b ∗ (∃ d, ⌜yNow i d = normX x0⌝ ∗ owns (c : Thread nD τ) arg11 fullShare d) ∗ (∃ W', owes (c : Thread nD τ) 0 W')) -∗ K ⟨⟩))
          ⊢ wp frame (wpE (defs₀ (F := F)) Variants.none c none) Set.univ (cc0_ln_dense_fold i arg1 harg1 (Memref.whole main_arg3) (Memref.isWhole_whole _) arg3 harg3 arg4 harg4 arg5 harg5 arg6 harg6 arg7 harg7 arg8 harg8 arg9 harg9 arg10 harg10 arg11 harg11 arg12 harg12 cc0_scratch4) K := by
    simp only [cc0_ln_dense_fold_eq_skeleton]; unfold cc0_ln_dense_fold_skel
    simp only [k0_part70_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%fs1, %hs1, HS1⟩, ⟨%fs2, %hs2, HS2⟩, HW, Hk⟩
    obtain rfl := harg1.eq_unread hf0; obtain rfl := harg9.eq_unread hs0; obtain rfl := harg10.eq_unread hs1; obtain rfl := harg11.eq_unread hs2
    sl_exec (disch := first | sl_exact hc0)
    sl_step
    iapply Hk
    isplitl [H0]
    · iexists _; isplitr; swap; · iexact H0
      ipureintro; exact harg1.read_unread _
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro
      refine (View.read_writes_full _ _ _ _ _).trans ?_
      rw [read_yPrev, View.readAt_full, View.readAt_full, harg9.read_unread, harg10.read_unread]
    isplitl [HS0]
    · iexists _; isplitr; swap; · iexact HS0
      ipureintro; exact harg9.read_unread _
    isplitl [HS1]
    · iexists _; isplitr; swap; · iexact HS1
      ipureintro; exact harg10.read_unread _
    isplitl [HS2]
    · iexists _; isplitr; swap
      · iexists _; isplitr; swap; · iexact HS2
        ipureintro; rfl
      ipureintro
      refine (yNow_stored _ _ _ _ _ _).trans ?_
      sl_open_run
      exact congrArg (fun x => normX x) ((View.readAt_full _ _ _).trans (harg1.read_unread _))
    iexists _; iexact HW

end Cert.KernelIdeal.Fold

end
-- ==== Proof.Body.lean ====
/- The pipeline's proof data: what each window and scratch buffer holds before and after every grid point, and the body's
   triple at each point from its two runs. -/
module

public import proofs.«01_k».proof.Proof.RunA
public import proofs.«01_k».proof.Proof.RunB
public import proofs.«01_k».proof.Proof.Gen.KernelIdeal.Points

@[expose] public section

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {F : FTy → Type} [FloatOps F]

local notation "𝕄" => MT nD τ sig Unit (Elt F) ℕ (Pipeline.UD sig nD τ) ℕ

variable (m : (ℓ : Loc nD τ sig) → Buf (Elt F) ℓ)

/-! ## The ring's four slots -/

/-- An index of the ring lies in the slot its first coordinate names. -/
theorem mem_slot (k : Fin 4) (x : S4x64x4096.Idx) : x ∈ (slotRect k).set ↔ (x 0).val = k.val := by
  rw [slotRect, Rect.mem_set_unit]
  constructor
  · intro h; have := h 0; simp at this; omega
  · intro h a
    have := (x a).isLt
    fin_cases a
    · simp at *; omega
    · simp at *; exact this
    · simp at *; exact this

/-- The slots' elements, as elements of the ring's buffer: -/
abbrev slotSet (c : Dev nD) (k : Fin 4) : Finset (Idx ((c : Thread nD τ).loc cc0_scratch3)) := scR.view.setOn (slotRect k).set

/-- no two share one, -/
theorem slotSet_disjoint (c : Dev nD) (k k' : Fin 4) (h : k ≠ k') : Disjoint (slotSet c k) (slotSet c k') :=
  View.disjoint_setOn _ (Finset.disjoint_left.mpr fun x h₁ h₂ => h (Fin.ext (((mem_slot k x).mp h₁).symm.trans ((mem_slot k' x).mp h₂))))

/-- and together they are the whole buffer. -/
theorem slotSet_cover (c : Dev nD) : Finset.univ.biUnion (slotSet c) = Finset.univ := by
  refine Finset.eq_univ_iff_forall.mpr fun i => ?_
  obtain ⟨x, rfl⟩ : ∃ x : S4x64x4096.Idx, scR.view.emb x = i := ⟨i, rfl⟩
  exact Finset.mem_biUnion.mpr ⟨x 0, Finset.mem_univ _, (View.mem_setOn _).mpr ((mem_slot (x 0) x).mpr rfl)⟩

/-- The ring's buffer whole at some contents is its four slots, each at some contents; -/
theorem ring_split (c : Dev nD) :
    (iprop(∃ d, owns (c : Thread nD τ) scR fullShare d) : sProp 𝕄)
      ⊢ iprop((∃ g, slotPt (F := F) c scR 0 g) ∗ (∃ g, slotPt (F := F) c scR 1 g) ∗ (∃ g, slotPt (F := F) c scR 2 g) ∗ ∃ g, slotPt (F := F) c scR 3 g) := by
  rw [show (iprop(∃ d, owns (c : Thread nD τ) scR fullShare d) : sProp 𝕄) = iprop(∃ f : Buf (Elt F) ((c : Thread nD τ).loc cc0_scratch3), ((c : Thread nD τ).loc cc0_scratch3) ↦{fullShare} f) from by simp only [scR, owns_whole]; rfl]
  exact Ring.slots4_split (slotSet c) (slotSet_disjoint c) (slotSet_cover c) _ _ _ _ (fun _ => rfl) (fun _ => rfl) (fun _ => rfl) (fun _ => rfl)

/-- and the four make it whole again. -/
theorem ring_join (c : Dev nD) :
    iprop((∃ g, slotPt (F := F) c scR 0 g) ∗ (∃ g, slotPt (F := F) c scR 1 g) ∗ (∃ g, slotPt (F := F) c scR 2 g) ∗ ∃ g, slotPt (F := F) c scR 3 g)
      ⊢ (iprop(∃ d, owns (c : Thread nD τ) scR fullShare d) : sProp 𝕄) := by
  rw [show (iprop(∃ d, owns (c : Thread nD τ) scR fullShare d) : sProp 𝕄) = iprop(∃ f : Buf (Elt F) ((c : Thread nD τ).loc cc0_scratch3), ((c : Thread nD τ).loc cc0_scratch3) ↦{fullShare} f) from by simp only [scR, owns_whole]; rfl]
  exact Ring.slots4_join (slotSet c) (slotSet_disjoint c) (slotSet_cover c) _ _ _ _ (fun _ => rfl) (fun _ => rfl) (fun _ => rfl) (fun _ => rfl)

/-! ## The points -/

theorem N_eq : cfgI.N = 33 := N_0

/-- The grid point numbered `n`, taken among the 33. -/
abbrev pt (n : ℕ) : Fin cfgI.N := ⟨n % 33, by rw [N_eq]; exact Nat.mod_lt _ (by decide)⟩

theorem pt_val (t : Fin cfgI.N) : pt t.val = t :=
  Fin.ext (Nat.mod_eq_of_lt (lt_of_lt_of_eq t.isLt N_eq))

theorem window_congr {s : Shape} {α : Type} (d : s.Idx → α) {o o' size : Fin s.rank → ℕ} (h : o = o') (i : ∀ a, o a + size a ≤ s.size a) (i' : ∀ a, o' a + size a ≤ s.size a) :
    VecWindow.window d o size i = VecWindow.window d o' size i' := by subst h; rfl

/-- A later point reads the normalized rows where the point before stored them. -/
theorem yPrev_eq (t : Fin cfgI.N) (h : t.val ≠ 0) (d : Vec F S2x256x4096 .bf16) :
    yPrev (grid0.coords t) d = yNow (grid0.coords (pt (t.val - 1))) d := by
  refine window_congr d ?_ _ _
  have ht : t.val < 33 := lt_of_lt_of_eq t.isLt N_eq
  rw [k0_off1_eq, k0_off2_eq, coord_val, coord_val]
  have : (t.val + 1) % 2 = (t.val - 1) % 33 % 2 := by omega
  rw [this]

/-- The block of results a point stores: that of the point before, but block 0 at the first. -/
theorem blockOut (i : grid0.Coords) : cc0_transform_7 i = ![(i 0).val - 1, 0] :=
  (by decide +kernel : ∀ i : grid0.Coords, cc0_transform_7 i = ![(i 0).val - 1, 0]) i

/-- The block of rows a point reads: its own, but the last block again at the last. -/
theorem blockIn (i : grid0.Coords) : cc0_transform_0 i = ![min (i 0).val 31, 0] :=
  (by decide +kernel : ∀ i : grid0.Coords, cc0_transform_0 i = ![min (i 0).val 31, 0]) i

/-- The result window is written back at every point but the first. -/
theorem flushOut (t : Fin cfgI.N) : (cfgI.win 6).flush t = true ↔ t.val ≠ 0 := by
  have ht : t.val < 33 := lt_of_lt_of_eq t.isLt N_eq
  have e : ∀ t : Fin cfgI.N, (cfgI.win 6).index t = ![t.val - 1, 0] := fun t => by
    rw [← coord_val t]; exact blockOut _
  rw [Pipeline.Window.flush_out (cfgI.win 6) rfl t]
  have hN : cfgI.N = 33 := N_0
  have hG : cfgI.grid.N = 33 := N_0
  constructor
  · rintro (h | ⟨h, hne⟩) h0
    · have := h.trans hG; omega
    · exact hne (by rw [e, e]; simp [h0])
  · intro h0
    by_cases h : t.val + 1 = cfgI.grid.N
    · exact .inl h
    · refine .inr ⟨by omega, fun he => ?_⟩
      rw [e, e] at he
      have := congrFun he 0
      simp at this
      omega

/-! ## The proof data -/

/-- The scaled, folded weights, -/
abbrev fw (c : Dev nD) : Vec F S4096x4096 .bf16 := foldW (iblk m c 1 (pt 0)) (iblk m c 2 (pt 0)) (V m c main_arg3) (iblk m c 3 (pt 0))
/-- the folded bias, -/
abbrev fb (c : Dev nD) : Vec F S1x4096 .f32 := foldB (iblk m c 1 (pt 0)) (iblk m c 2 (pt 0)) (V m c main_arg3) (iblk m c 4 (pt 0)) (iblk m c 5 (pt 0))
/-- and the block of results point `t` stores. -/
abbrev outT (c : Dev nD) (t : Fin cfgI.N) : Vec F S256x4096 .f32 := outX (normX (iblk m c 0 (pt (t.val - 1)))) (fw m c) (fb m c)

/-- What the body keeps from one point to the next, after point `n`: the folded weights and bias, and the rows normalized at `n`. -/
def Kept (c : Dev nD) (n : ℕ) : sProp 𝕄 :=
  iprop(owns (c : Thread nD τ) scW fullShare (fw m c) ∗ owns (c : Thread nD τ) scB fullShare (fb m c)
    ∗ (∃ d, ⌜yNow (grid0.coords (pt n)) d = normX (iblk m c 0 (pt n))⌝ ∗ owns (c : Thread nD τ) scY fullShare d)
    ∗ (∃ d, owns (c : Thread nD τ) scR fullShare d)
    ∗ (∃ r, prngReg c r)
    ∗ iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0)
    ∗ hbPt c hbW (V m c main_arg3))

/-- The body's invariant before point `s`. -/
def Inv (c : Dev nD) (s : ℕ) : sProp 𝕄 := if s = 0 then Pipeline.ΦD osem spec0 HB (V m) c else Kept m c (s - 1)

theorem Inv_zero (c : Dev nD) : Inv m c 0 = Pipeline.ΦD osem spec0 HB (V m) c := if_pos rfl
theorem Inv_pos (c : Dev nD) (s : ℕ) (h : s ≠ 0) : Inv m c s = Kept m c (s - 1) := if_neg h

/-- The proof data of the pipeline on core `c`: the arrays as the region finds them; each input's buffer left at its block, the
    result window's at the block of results; the invariant; nothing owed; full shares. -/
def dats (_ : Fin 1) (c : Dev nD) : Dat τ (Elt F) Unit ℕ (Pipeline.UD sig nD τ) ℕ cfgI c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outT m c t
  Φ s := Inv m c s.val
  q _ := fullShare
  owed _ := 0

theorem A_eq (c : Dev nD) (w : Fin cfgI.W) : (dats m 0 c).A w = V m c (Pipeline.arrRef spec0 w) := by dsimp only [dats]
theorem after_0 (c : Dev nD) (t : Fin cfgI.N) : (dats m 0 c).after 0 t = iblk m c 0 t := by dsimp only [dats]
theorem after_1 (c : Dev nD) (t : Fin cfgI.N) : (dats m 0 c).after 1 t = iblk m c 1 t := by dsimp only [dats]
theorem after_2 (c : Dev nD) (t : Fin cfgI.N) : (dats m 0 c).after 2 t = iblk m c 2 t := by dsimp only [dats]
theorem after_3 (c : Dev nD) (t : Fin cfgI.N) : (dats m 0 c).after 3 t = iblk m c 3 t := by dsimp only [dats]
theorem after_4 (c : Dev nD) (t : Fin cfgI.N) : (dats m 0 c).after 4 t = iblk m c 4 t := by dsimp only [dats]
theorem after_5 (c : Dev nD) (t : Fin cfgI.N) : (dats m 0 c).after 5 t = iblk m c 5 t := by dsimp only [dats]
theorem after_6 (c : Dev nD) (t : Fin cfgI.N) : (dats m 0 c).after 6 t = outT m c t := by dsimp only [dats]

/-- No input window is idle anywhere; -/
theorem idle_in (w : Fin cfgI.W) (hw : w.val ≠ 6) (i : grid0.Coords) : cfgI.idle w i = false := decide_eq_false fun h => hw h.1
/-- the result window is at the first point only. -/
theorem idle_out (t : Fin cfgI.N) : cfgI.idle 6 (grid0.coords t) = decide (t.val = 0) := by
  show decide ((6 : ℕ) = 6 ∧ (grid0.coords t 0).val = 0) = _
  rw [coord_val]; simp

/-- Each input's staging buffer holds its block at every point. -/
theorem before_0 (c : Dev nD) (t : Fin cfgI.N) (d) : (dats m 0 c).before 0 t d = iblk m c 0 t :=
  ((dats m 0 c).before_in_eq_fetched 0 rfl (fun t => idle_in 0 (by decide) _) (fun _ _ _ => rfl) (fun t => by rw [after_0]; rfl) t d).trans rfl
theorem before_1 (c : Dev nD) (t : Fin cfgI.N) (d) : (dats m 0 c).before 1 t d = iblk m c 1 t :=
  ((dats m 0 c).before_in_eq_fetched 1 rfl (fun t => idle_in 1 (by decide) _) (fun _ _ _ => rfl) (fun t => by rw [after_1]; rfl) t d).trans rfl
theorem before_2 (c : Dev nD) (t : Fin cfgI.N) (d) : (dats m 0 c).before 2 t d = iblk m c 2 t :=
  ((dats m 0 c).before_in_eq_fetched 2 rfl (fun t => idle_in 2 (by decide) _) (fun _ _ _ => rfl) (fun t => by rw [after_2]; rfl) t d).trans rfl
theorem before_3 (c : Dev nD) (t : Fin cfgI.N) (d) : (dats m 0 c).before 3 t d = iblk m c 3 t :=
  ((dats m 0 c).before_in_eq_fetched 3 rfl (fun t => idle_in 3 (by decide) _) (fun _ _ _ => rfl) (fun t => by rw [after_3]; rfl) t d).trans rfl
theorem before_4 (c : Dev nD) (t : Fin cfgI.N) (d) : (dats m 0 c).before 4 t d = iblk m c 4 t :=
  ((dats m 0 c).before_in_eq_fetched 4 rfl (fun t => idle_in 4 (by decide) _) (fun _ _ _ => rfl) (fun t => by rw [after_4]; rfl) t d).trans rfl
theorem before_5 (c : Dev nD) (t : Fin cfgI.N) (d) : (dats m 0 c).before 5 t d = iblk m c 5 t :=
  ((dats m 0 c).before_in_eq_fetched 5 rfl (fun t => idle_in 5 (by decide) _) (fun _ _ _ => rfl) (fun t => by rw [after_5]; rfl) t d).trans rfl
/-- The result window's holds, at the first point, what nothing has filled. -/
theorem before_6 (c : Dev nD) (t : Fin cfgI.N) (h : t.val = 0) (d) : (dats m 0 c).before 6 t d = d := by
  unfold Dat.before
  rw [if_neg (by rw [Pipeline.Window.fetch_out (cfgI.win 6) rfl t]; decide), if_pos h]

/-! ## The body's triple at each point -/

/-- What the body is called with at point `t`, window by window, -/
def bodyPre (c : Dev nD) (t : Fin cfgI.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- what it leaves in the result window, -/
def leftOut (c : Dev nD) (t : Fin cfgI.N) : sProp 𝕄 :=
  match cfgI.idle 6 (cfgI.grid.coords t) with
  | true =>
    match (cfgI.win 6).flush t with
    | false => iprop(∃ d, owns (c : Thread nD τ) (st0_6 t) fullShare ((dats m 0 c).before 6 t d))
    | true => owns (c : Thread nD τ) (st0_6 t) fullShare ((dats m 0 c).after 6 t)
  | false => owns (c : Thread nD τ) (st0_6 t) fullShare ((dats m 0 c).after 6 t)

/-- and what it returns. -/
def bodyPost (c : Dev nD) (t : Fin cfgI.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ leftOut m c t)

theorem leftOut_zero (c : Dev nD) (t : Fin cfgI.N) (h : t.val = 0) :
    leftOut m c t = iprop(∃ d, owns (c : Thread nD τ) (st0_6 t) fullShare d) := by
  unfold leftOut
  have hf : (cfgI.win 6).flush t = false := Bool.eq_false_iff.mpr fun e => (flushOut t).mp e h
  have hi : cfgI.idle 6 (cfgI.grid.coords t) = true := (idle_out t).trans (decide_eq_true h)
  rw [hi, hf]
  simp only [before_6 m c t h]

theorem leftOut_pos (c : Dev nD) (t : Fin cfgI.N) (h : t.val ≠ 0) :
    leftOut m c t = owns (c : Thread nD τ) (st0_6 t) fullShare (outT m c t) := by
  unfold leftOut
  have hi : cfgI.idle 6 (cfgI.grid.coords t) = false := (idle_out t).trans (decide_eq_false h)
  rw [hi, after_6]

/-- An input staged whole and fetched once holds the same block at every point. -/
theorem blk_const (c : Dev nD) (t : Fin cfgI.N) (h : t.val = 0) : t = pt 0 := Fin.ext h

set_option maxHeartbeats 1600000 in
/-- The body at the first point, from its run: it leaves the scratch at the folded weights and bias and its own rows normalized. -/
theorem sound_first (c : Dev nD) (t : Fin cfgI.N) (h0 : t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [after_0, after_1, after_2, after_3, after_4, after_5, leftOut_zero m c t h0]
  rw [show (dats m 0 c).Φ t.succ = Kept m c t.val from Inv_pos m c _ (Nat.succ_ne_zero _),
    show (dats m 0 c).Φ t.castSucc = Pipeline.ΦD osem spec0 HB (V m) c from (congrArg (Inv m c) h0).trans (Inv_zero m c), entry_eq]
  unfold Dat.owesAt Pipeline.owesWithin Kept fw fb
  rw [show (dats m 0 c).owed t.castSucc = 0 from rfl, show (dats m 0 c).owed t.succ = 0 from rfl, pt_val, ← blk_const c t h0]
  iintro ⟨⟨⟨HS0, HS1, HS2, HS3⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
  ihave HR := (ring_split (F := F) c) $$ HS3
  icases HR with ⟨HR0, HR1, HR2, HR3⟩
  iapply (runA c (grid0.coords t) _ _ _ _ _ _ _ _ _ _ _ _ _ _ _ _ _ _ _ _ _ _ ((isFirst_iff t).mpr h0) (iblk m c 0 t) (iblk m c 1 t) (iblk m c 2 t) (iblk m c 3 t) (iblk m c 4 t) (iblk m c 5 t) (V m c main_arg3) W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HR0]; · iexact HR0
  isplitl [HR1]; · iexact HR1
  isplitl [HR2]; · iexact HR2
  isplitl [HR3]; · iexact HR3
  isplitl [Hq0]; · iexact Hq0
  isplitl [Hq1]; · iexact Hq1
  isplitl [Hq2]; · iexact Hq2
  isplitl [Hq3]; · iexact Hq3
  isplitl [Hh0]; · iexact Hh0
  isplitl [HW]; · iexact HW
  iintro ⟨H0, H1, H2, H3, H4, H5, H6, HS0, HS1, HS2, HR0, HR1, HR2, HR3, Hq0, Hq1, Hq2, Hq3, Hh0, ⟨%W', HW'⟩⟩
  ihave HS3 := (ring_join (F := F) c) $$ [HR0 HR1 HR2 HR3]
  · isplitl [HR0]; · iexact HR0
    isplitl [HR1]; · iexact HR1
    isplitl [HR2]; · iexact HR2
    iexact HR3
  isplitl [HS0 HS1 HS2 HS3 Hg Hq0 Hq1 Hq2 Hq3 Hh0]
  · isplitl [HS0]; · iexact HS0
    isplitl [HS1]; · iexact HS1
    isplitl [HS2]; · iexact HS2
    isplitl [HS3]; · iexact HS3
    isplitl [Hg]; · iexact Hg
    isplitl [Hq0 Hq1 Hq2 Hq3]
    · isplitl [Hq0]; · iexact Hq0
      isplitl [Hq1]; · iexact Hq1
      isplitl [Hq2]; · iexact Hq2
      iexact Hq3
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

set_option maxHeartbeats 1600000 in
/-- The body at a later point, from its run: it stores the results of the rows the point before normalized, and keeps its own normalized. -/
theorem sound_later (c : Dev nD) (t : Fin cfgI.N) (h0 : t.val ≠ 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [after_0, after_1, after_2, after_3, after_4, after_5, leftOut_pos m c t h0]
  rw [show (dats m 0 c).Φ t.succ = Kept m c t.val from Inv_pos m c _ (Nat.succ_ne_zero _),
    show (dats m 0 c).Φ t.castSucc = Kept m c (t.val - 1) from Inv_pos m c _ h0]
  unfold Dat.owesAt Pipeline.owesWithin Kept
  rw [show (dats m 0 c).owed t.castSucc = 0 from rfl, show (dats m 0 c).owed t.succ = 0 from rfl, pt_val]
  iintro ⟨⟨HS0, HS1, ⟨%ds, %hd, HS2⟩, HS3, Hg, Hq, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (runB c (grid0.coords t) _ _ _ _ _ _ _ _ _ _ _ _ _ _ _ _ _ _ _ _ scR (Memref.isWhole_whole _) (fun h => h0 ((isFirst_iff t).mp h)) (iblk m c 0 t) (iblk m c 1 t) (iblk m c 2 t) (iblk m c 3 t) (iblk m c 4 t) (iblk m c 5 t) (fw m c) (fb m c) ds W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HW]; · iexact HW
  rw [yPrev_eq t h0 ds, hd]
  iintro ⟨H0, H1, H2, H3, H4, H5, H6, HS0, HS1, HS2, ⟨%W', HW'⟩⟩
  isplitl [HS0 HS1 HS2 HS3 Hg Hq Hh0]
  · isplitl [HS0]; · iexact HS0
    isplitl [HS1]; · iexact HS1
    isplitl [HS2]; · iexact HS2
    isplitl [HS3]; · iexact HS3
    isplitl [Hg]; · iexact Hg
    isplitl [Hq]; · iexact Hq
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

/-- The body at any point. -/
theorem sound_body (c : Dev nD) (t : Fin cfgI.N) :
    bodyPre m c t ⊢ wp frame (wpE (defs₀ (F := F)) Variants.none c none) Set.univ (bodyAt0 t) (fun _ => bodyPost m c t) :=
  if h : t.val = 0 then sound_first m c t h else sound_later m c t h

/-- The body table's row at point `t`'s slots is the body. -/
theorem row_eq (t : Fin cfgI.N) : defs₀ (F := F) .tc cfgI.body (cfgI.bodyArgs t (cfgI.slots t)) = bodyAt0 t := by
  unfold defs₀; rw [Defs.onTc_tc]; rfl

/-- The body obligation of the pipeline, at every point. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

end Cert.KernelIdeal.Fold

end
-- ==== Proof.Launch.lean ====
/- The launch: the folding kernel's program run from any memory, and what its arguments and its results end holding. -/
module

public import proofs.«01_k».proof.Proof.Body
public import Idealize.ShloMosaic.Lib.Claim

@[expose] public section

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
set_option maxHeartbeats 800000 in
/-- The program around its pipeline. -/
theorem around (𝒱₀ : Variants) : Pipeline.HMainK (Ix := Unit) (Name := ℕ) (U := Pipeline.UD sig nD τ) (Lvl := ℕ) cfgsI 0 defs₀ 𝒱₀ m (main (F := F)) (V m)
      (fun _ => Pipeline.chain ([hostOps1].map StableHlo.seq)) :=
  Pipeline.hmain_around cfgsI 0 defs₀ 𝒱₀ m main [hostOps0] [hostOps1] (by simp only [List.Forall]; exact hostOps0_sub)
    (by simp only [List.Forall]; exact hostOps0_fresh) main_chain

/-- The lines after the region touch the pipeline's arrays and the bypassing buffers, the weights not among them. -/
theorem later_sub : ∀ ops ∈ ([hostOps1] : List (List (HloOp τ sig (Elt F)))), ∀ op ∈ ops,
    op.bufs ⊆ Pipeline.tailRefsBut sig Pipeline.Prefetch.none spec0 HB := by
  intro ops hops op hop
  obtain rfl := List.mem_singleton.mp hops
  refine Pipeline.sub_tailRefsBut Pipeline.Prefetch.none spec0 HB op ((List.forall_iff_forall_mem.mp hostOps1_sub) op hop) (fun j => j.elim0) ?_
  intro b hb
  obtain rfl := Finset.mem_singleton.mp hb
  obtain rfl := List.mem_singleton.mp hop
  simp only [StableHlo.reshape_bufs, Finset.mem_insert, Finset.mem_singleton, not_or]
  constructor <;> exact StableHlo.devRef_ne_of_ne (by decide)

/-- The launch hands the body its invariant before the first point, -/
theorem enter (c : Dev nD) : (Pipeline.ΦD osem spec0 HB (V m) c : sProp 𝕄) ⊢ (dats m 0 c).Φ 0 :=
  Entails.of_eq (Inv_zero m c).symm

/-- and takes back what it kept after the last. -/
theorem leave (c : Dev nD) : (dats m 0 c).Φ (Fin.last cfgI.N) ⊢ (Pipeline.ΦD osem spec0 HB (V m) c : sProp 𝕄) := by
  have h : (Fin.last cfgI.N).val = 33 := N_eq
  show Inv m c (Fin.last cfgI.N).val ⊢ _
  rw [h, Inv_pos m c 33 (by decide), entry_eq]
  unfold Kept
  iintro ⟨HS0, HS1, ⟨%ds, -, HS2⟩, HS3, Hg, Hq, Hh0⟩
  isplitl [HS0 HS1 HS2 HS3]
  · isplitl [HS0]; · iexists _; iexact HS0
    isplitl [HS1]; · iexists _; iexact HS1
    isplitl [HS2]; · iexists _; iexact HS2
    iexact HS3
  isplitl [Hg]; · iexact Hg
  isplitl [Hq]; · iexact Hq
  iexact Hh0

/-- What a final state holds: each array of the pipeline what its write-backs left, every other buffer what the later lines leave,
    and every semaphore zero. -/
abbrev Post (r : PUnit × MemSt nD τ sig (Elt F)) : Prop :=
  Pipeline.FramePost cfgsI (dats m) 0 (Pipeline.afterTail₀ cfgsI (dats m) 0 (V0 m) [hostOps1]) r ∧ r.2.sem = fun _ => 0

set_option backward.isDefEq.respectTransparency.types false in
set_option maxHeartbeats 800000 in
/-- The program's run over the pipeline with its idle point. -/
theorem runI : θ_run (Pipeline.defs (fun q => Cfg.toPCfg (Val := Elt F) (cfgsI q)) defs₀) (onTc (τ := τ) (main (F := F))) (s₀ m ρ) (Post m) :=
  Pipeline.θ_run_frame_dma_around (Q' := _) cfgsI (dats m) (0 : Fin 1) launchI osem defs₀ Variants.none osemFacts HB HB_sub m ρ main
    (hbody := fun c => (body_obligation m c).loose) (hshare := fun c => (dats m 0 c).share_full fun _ => rfl)
    (howed := fun _ _ => rfl) (V₀ := V0 m) (opss := [hostOps1]) (hsub := later_sub) (hfresh := sfx_fresh) (hkeep := sfx_keeps)
    (hmain := around m Variants.none) (hA := A_eq m) (hin := enter m) (hout := leave m)

/-- The program's run. -/
theorem run : θ_run defs (onTc (τ := τ) (main (F := F))) (s₀ m ρ) (Post m) := by
  have h := runI m ρ
  rw [defsI_eq] at h
  exact h

/-- The reshape after the pipeline writes the result alone: a buffer that is neither it nor an array of the pipeline ends
    holding what the lines before the pipeline left. -/
theorem tail_of_ne (c : Dev nD) (b : Ref sig .tc) (hb : b ≠ main_v6) (hw : ∀ w, Pipeline.arrRef spec0 w ≠ b) :
    Pipeline.afterTail₀ cfgsI (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append, List.nil_append, List.Forall,
        StableHlo.reshape_writes, Finset.mem_singleton]
      exact StableHlo.devRef_ne_of_ne hb)),
    Pipeline.withArrays_of_ne _ c (V0 m c) _ b hw]

/-- A buffer no window stages and no scope owns, other than the result, ends as the lines before the pipeline left it. -/
theorem rest_of_post {r : PUnit × MemSt nD τ sig (Elt F)} (h : Post m r) (c : Dev nD) (b : Ref sig .tc) (hs : b.isScoped = false)
    (hb : b ≠ main_v6) (hw : ∀ w, Pipeline.arrRef spec0 w ≠ b) : r.2.mem ((c : Thread nD τ).loc b) = V m c b :=
  ((h.1 c).2 b (Pipeline.mem_restRefs_of b hs hw)).trans (tail_of_ne m c b hb hw)

/-- Every argument ends as launched. -/
theorem args_of_post {r : PUnit × MemSt nD τ sig (Elt F)} (h : Post m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(rest_of_post m h c main_arg0 (by decide) (by decide) (by decide)).trans (V_main_arg0 m c),
    (rest_of_post m h c main_arg1 (by decide) (by decide) (by decide)).trans (V_main_arg1 m c),
    (rest_of_post m h c main_arg2 (by decide) (by decide) (by decide)).trans (V_main_arg2 m c),
    (rest_of_post m h c main_arg3 (by decide) (by decide) (by decide)).trans (V_main_arg3 m c),
    (rest_of_post m h c main_arg4 (by decide) (by decide) (by decide)).trans (V_main_arg4 m c),
    ((h.1 c).1 2).trans (((dats m 0 c).arrAt_in 2 rfl _).trans ((A_eq m c 2).trans (V_main_arg5 m c))),
    (rest_of_post m h c main_arg6 (by decide) (by decide) (by decide)).trans (V_main_arg6 m c)⟩

/-- From any memory the program runs, its arguments end unchanged and every semaphore zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => args_of_post m h c, h.2⟩) (run m ρ)

end Cert.KernelIdeal.Fold

end
-- ==== Proof.Value.lean ====
/- What the pipeline's output array and the program's result end holding, block by block; and what the input blocks hold, in terms of
   the argument arrays. -/
module

public import proofs.«01_k».proof.Proof.Launch
public import Idealize.ShloMosaic.Lib.ValueIdx
public import Idealize.ShloMosaic.Lib.ValueLayout
public import Idealize.ShloMosaic.Lib.Pipeline.Value
public import Idealize.ShloMosaic.Lib.Pipeline.ValueKit.Geometry
public import Idealize.ShloMosaic.Lib.Pipeline.ValueKit.Point

@[expose] public section

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg)

variable {F : FTy → Type} [FloatOps F]
variable (m : (ℓ : Loc nD τ sig) → Buf (Elt F) ℓ)

/-- The array the pipeline's output window ends holding: row `r` of row tile `k` is what the step after the one that reads the tile
    wrote. -/
def outArr (c : Dev nD) : S8192x4096.Idx → Elt F .f32 := fun i =>
  outT m c (pt ((i 0).val / 256 + 1)) (ix2 ⟨(i 0).val % 256, Nat.mod_lt _ (by decide)⟩ (i 1))

theorem index_6 : ∀ t : Fin cfgI.N, (cfgI.win 6).index t = ![t.val - 1, 0] := fun t => by
  rw [← coord_val t]; exact blockOut _

/-- The index the result window's block at point `t` puts a block index at. -/
theorem out_emb (t : Fin cfgI.N) (y : S256x4096.Idx) :
    ((((cfgI.win 6).blk t).view.emb y 0).val = (t.val - 1) * 256 + (y 0).val) ∧ (((cfgI.win 6).blk t).view.emb y 1).val = (y 1).val := by
  have h0 := Pipeline.Window.rect_emb_val (cfgI.win 6) t y 0
  have h1 := Pipeline.Window.rect_emb_val (cfgI.win 6) t y 1
  rw [index_6] at h0 h1
  refine ⟨h0.trans ?_, h1.trans ?_⟩
  · rfl
  · show 0 * 4096 + (y 1).val = _
    omega

/-- The place a view gives an index is among the view's places. -/
theorem mem_of_emb {κ : Kind} {sp : Space} {s : Shape} {e : EltTy} {v : View sig κ sp s e} {y : s.Idx} {i : v.ty.Idx} (h : v.emb y = i) : i ∈ v.set :=
  h ▸ v.emb_mem_set y

/-- The array the pipeline ends with. -/
theorem arr_out (c : Dev nD) : (dats m 0 c).arrAt 6 cfgI.N = outArr m c := by
  refine (dats m 0 c).arrAt_eq_of_emb 6 (outArr m c) (fun t ht y => ?_) (fun i => ?_)
  · have ht0 : t.val ≠ 0 := (flushOut t).mp ht
    have htN : t.val < 33 := lt_of_lt_of_eq t.isLt N_eq
    have y0 : (y 0).val < 256 := (y 0).isLt
    obtain ⟨e0, e1⟩ := out_emb t y
    show (dats m 0 c).after 6 t y = outArr m c _
    rw [after_6]
    unfold outArr
    rw [show pt ((((cfgI.win 6).blk t).view.emb y 0).val / 256 + 1) = t from Fin.ext (by
      show (_ / 256 + 1) % 33 = t.val
      rw [e0]; omega)]
    refine congrArg _ ?_
    funext a
    match a with
    | ⟨0, _⟩ => exact Fin.ext (by show (y 0).val = _ % 256; rw [e0]; omega)
    | ⟨1, _⟩ => exact Fin.ext e1.symm
  · have i0 : (i 0).val < 8192 := (i 0).isLt
    have hp : (pt ((i 0).val / 256 + 1)).val = (i 0).val / 256 + 1 := Nat.mod_eq_of_lt (by omega)
    refine ⟨pt ((i 0).val / 256 + 1), (flushOut _).mpr (by rw [hp]; omega), ?_⟩
    obtain ⟨e0, e1⟩ := out_emb (pt ((i 0).val / 256 + 1)) (ix2 ⟨(i 0).val % 256, Nat.mod_lt _ (by decide)⟩ (i 1))
    rw [hp, Nat.add_sub_cancel] at e0
    refine mem_of_emb (y := ix2 ⟨(i 0).val % 256, Nat.mod_lt _ (by decide)⟩ (i 1)) (funext fun a => ?_)
    match a with
    | ⟨0, _⟩ => exact Fin.ext (e0.trans (Nat.div_add_mod' _ _))
    | ⟨1, _⟩ => exact Fin.ext e1

/-- The program's result is the pipeline's array, its rows regrouped. -/
theorem result_of_post {r : PUnit × MemSt nD τ sig (Elt F)} (h : Post m r) (c : Dev nD) :
    r.2.mem ((c.tc : Thread nD τ).loc main_v6) = shapeCast S4x2048x4096 (outArr m c) shapeCasts_S8192x4096_S4x2048x4096 := by
  refine ((h.1 c).2 main_v6 (Pipeline.mem_restRefs_of main_v6 (by decide) (by decide))).trans ?_
  unfold Pipeline.afterTail₀
  rw [show ([hostOps1] : List (List (HloOp τ sig (Elt F)))).flatten = hostOps1 from rfl]
  simp only [hostOps1, StableHlo.after_cons, StableHlo.after_nil, StableHlo.reshape_result']
  have e : Pipeline.withArrays (cfgsI 0).spec c (V0 m c) (fun w => (dats m 0 c).arrAt w (cfgsI 0).N) (Proc.tc.devRef main_v5) = outArr m c :=
    (Pipeline.withArrays_arr spec0 launchI.win.arr_inj c (V0 m c) (fun w => (dats m 0 c).arrAt w (cfgsI 0).N) 6).trans (arr_out m c)
  rw [e]
  rfl

/-- What the pipeline finds in its first operand: the rows of the four sequences one after another, -/
theorem V_x (c : Dev nD) : V m c main_v0 = shapeCast S8192x4096 (m ((c.tc : Thread nD τ).loc main_arg0)) shapeCasts_S4x2048x4096_S8192x4096 := by
  entry_read; rfl

/-- the transpose of the first low-rank factor, -/
theorem V_a (c : Dev nD) : V m c main_v1 = transpose S32x4096 [1, 0] (m ((c.tc : Thread nD τ).loc main_arg4)) transposes_S4096x32_S32x4096_1_0 := by
  entry_read; rfl

/-- the scale as 32 rows of 128, -/
theorem V_scale (c : Dev nD) : V m c main_v2 = shapeCast S32x128 (m ((c.tc : Thread nD τ).loc main_arg1)) shapeCasts_S4096_S32x128 := by
  entry_read; rfl

/-- the shift likewise, -/
theorem V_shift (c : Dev nD) : V m c main_v3 = shapeCast S32x128 (m ((c.tc : Thread nD τ).loc main_arg2)) shapeCasts_S4096_S32x128 := by
  entry_read; rfl

/-- and the bias as one row. -/
theorem V_bias (c : Dev nD) : V m c main_v4 = shapeCast S1x4096 (m ((c.tc : Thread nD τ).loc main_arg6)) shapeCasts_S4096_S1x4096 := by
  entry_read; rfl

theorem index_0 : ∀ t : Fin cfgI.N, (cfgI.win 0).index t = ![min t.val 31, 0] := fun t => by
  rw [← coord_val t]; exact blockIn _

/-- The sequences' rows one after another, at a row and a column; -/
theorem rows_at {α : Type} (x : S4x2048x4096.Idx → α) (i : S8192x4096.Idx) (b : Fin 4) (s : Fin 2048) (h : Fin 4096)
    (h0 : (i 0).val = b.val * 2048 + s.val) (h1 : (i 1).val = h.val) :
    shapeCast S8192x4096 x shapeCasts_S4x2048x4096_S8192x4096 i = x (ix3 b s h) := by
  refine shapeCast_apply _ _ _ _ ?_
  rw [Shape.rowMajor_val_three, Shape.rowMajor_val_two, h0, h1]
  rfl

/-- and the rows regrouped into sequences, at a sequence, a row and a column. -/
theorem seqs_at {α : Type} (x : S8192x4096.Idx → α) (b : Fin 4) (s : Fin 2048) (h : Fin 4096) :
    shapeCast S4x2048x4096 x shapeCasts_S8192x4096_S4x2048x4096 (ix3 b s h) = x (ix2 (⟨b.val * 2048 + s.val, by omega⟩ : Fin 8192) h) := by
  refine shapeCast_apply _ _ _ _ ?_
  rw [Shape.rowMajor_val_three, Shape.rowMajor_val_two]
  rfl

/-- The row tile that holds row `s` of sequence `b`, -/
abbrev tileOf (b : Fin 4) (s : Fin 2048) : ℕ := (b.val * 2048 + s.val) / 256
/-- and the row's place in it. -/
abbrev rowOf (b : Fin 4) (s : Fin 2048) : Fin 256 := ⟨(b.val * 2048 + s.val) % 256, Nat.mod_lt _ (by decide)⟩

/-- A row tile of the pipeline's first operand holds the argument's rows. -/
theorem x_at (c : Dev nD) (b : Fin 4) (s : Fin 2048) (h : Fin 4096) :
    iblk m c 0 (pt (tileOf b s)) (ix2 (rowOf b s) h) = m ((c.tc : Thread nD τ).loc main_arg0) (ix3 b s h) := by
  have hp : (pt (tileOf b s)).val = tileOf b s := Nat.mod_eq_of_lt (by show (b.val * 2048 + s.val) / 256 < 33; omega)
  have h0 := Pipeline.Window.rect_emb_val (cfgI.win 0) (pt (tileOf b s)) (ix2 (rowOf b s) h) 0
  have h1 := Pipeline.Window.rect_emb_val (cfgI.win 0) (pt (tileOf b s)) (ix2 (rowOf b s) h) 1
  rw [index_0, hp] at h0 h1
  show V m c main_v0 _ = _
  rw [V_x]
  refine rows_at _ _ b s h (h0.trans ?_) (h1.trans ?_)
  · show min ((b.val * 2048 + s.val) / 256) 31 * 256 + (b.val * 2048 + s.val) % 256 = _
    omega
  · show 0 * 4096 + h.val = _
    omega

/-- A block at block index zero is placed where it is. -/
theorem emb_whole (w : Fin 7) (hw : (cfgI.win w).index (pt 0) = fun _ => 0) (y : ((cfgI.win w).xblock (cfgI.grid.coords (pt 0))).Idx) (a) :
    (((cfgI.win w).rect (pt 0)).emb y a).val = (y a).val := by
  rw [Pipeline.Window.rect_emb_val _ _ _ _ ((by decide : ∀ w : Fin 7, (cfgI.win w).kind = Pipeline.WinKind.blocked) w), hw, Nat.zero_mul, Nat.zero_add]

theorem zeros2 : (![0, 0] : Fin 2 → ℕ) = fun _ => 0 := by decide

/-- The transposed first factor, -/
theorem a_at (c : Dev nD) (r : Fin 32) (h : Fin 4096) :
    iblk m c 1 (pt 0) (ix2 r h) = m ((c.tc : Thread nD τ).loc main_arg4) (ix2 h r) := by
  show V m c main_v1 (((cfgI.win 1).rect (pt 0)).emb (ix2 r h)) = _
  rw [V_a, show ((cfgI.win 1).rect (pt 0)).emb (ix2 r h) = (ix2 r h : S32x4096.Idx) from
    funext fun a => Fin.ext (emb_whole 1 zeros2 _ a)]
  exact ValueIdx.transpose_ix2_apply _ _ _ _

/-- the second, -/
theorem b_at (c : Dev nD) : iblk m c 2 (pt 0) = m ((c.tc : Thread nD τ).loc main_arg5) := by
  funext y
  show V m c main_arg5 (((cfgI.win 2).rect (pt 0)).emb y) = _
  rw [V_main_arg5, show ((cfgI.win 2).rect (pt 0)).emb y = (y : S32x4096.Idx) from funext fun a => Fin.ext (emb_whole 2 zeros2 _ a)]

/-- A vector in 32 rows of 128, at the place its entry `h` has. -/
theorem lanes_at {α : Type} (x : S4096.Idx → α) (h : Fin 4096) (i : S32x128.Idx) (hi : (i 0).val * 128 + (i 1).val = h.val) :
    shapeCast S32x128 x shapeCasts_S4096_S32x128 i = x (ix1 h) := by
  refine shapeCast_apply _ _ _ _ ?_
  rw [Shape.rowMajor_val_one, Shape.rowMajor_val_two]
  exact hi.symm

/-- A vector as one row. -/
theorem lane_at {α : Type} (x : S4096.Idx → α) (f : Fin 4096) (i : S1x4096.Idx) (h0 : (i 0).val = 0) (h1 : (i 1).val = f.val) :
    shapeCast S1x4096 x shapeCasts_S4096_S1x4096 i = x (ix1 f) := by
  refine shapeCast_apply _ _ _ _ ?_
  rw [Shape.rowMajor_val_one, Shape.rowMajor_val_two, h0, h1]
  show f.val = 0 * 4096 + f.val
  omega

/-- The scale, -/
theorem scale_at (c : Dev nD) (h : Fin 4096) (i : S32x128.Idx) (hi : (i 0).val * 128 + (i 1).val = h.val) :
    iblk m c 3 (pt 0) i = m ((c.tc : Thread nD τ).loc main_arg1) (ix1 h) := by
  show V m c main_v2 (((cfgI.win 3).rect (pt 0)).emb i) = _
  rw [V_scale]
  exact lanes_at _ h _ (by rw [emb_whole 3 zeros2 i 0, emb_whole 3 zeros2 i 1]; exact hi)

/-- the shift, -/
theorem shift_at (c : Dev nD) (h : Fin 4096) (i : S32x128.Idx) (hi : (i 0).val * 128 + (i 1).val = h.val) :
    iblk m c 4 (pt 0) i = m ((c.tc : Thread nD τ).loc main_arg2) (ix1 h) := by
  show V m c main_v3 (((cfgI.win 4).rect (pt 0)).emb i) = _
  rw [V_shift]
  exact lanes_at _ h _ (by rw [emb_whole 4 zeros2 i 0, emb_whole 4 zeros2 i 1]; exact hi)

/-- and the bias. -/
theorem bias_at (c : Dev nD) (f : Fin 4096) :
    iblk m c 5 (pt 0) (ix2 0 f) = m ((c.tc : Thread nD τ).loc main_arg6) (ix1 f) := by
  show V m c main_v4 (((cfgI.win 5).rect (pt 0)).emb (ix2 0 f)) = _
  rw [V_bias]
  exact lane_at _ f _ (emb_whole 5 zeros2 _ 0) (emb_whole 5 zeros2 _ 1)

/-- The program's result at row `s` of sequence `b` and column `f`: what the step after the row tile's own stores of that row. -/
theorem result_at (c : Dev nD) (b : Fin 4) (s : Fin 2048) (f : Fin 4096) :
    shapeCast S4x2048x4096 (outArr m c) shapeCasts_S8192x4096_S4x2048x4096 (ix3 b s f)
      = outX (normX (iblk m c 0 (pt (tileOf b s)))) (fw m c) (fb m c) (ix2 (rowOf b s) f) := by
  rw [seqs_at]
  show outX (normX (iblk m c 0 (pt ((pt (tileOf b s + 1)).val - 1)))) (fw m c) (fb m c) (ix2 (rowOf b s) f) = _
  rw [show (pt (tileOf b s + 1)).val - 1 = tileOf b s from by
    show ((b.val * 2048 + s.val) / 256 + 1) % 33 - 1 = (b.val * 2048 + s.val) / 256
    omega]

end Cert.KernelIdeal.Fold

end
-- ==== Proof.Algebra.lean ====
/- The equation between the kernel's arithmetic and the reference's, over the extended reals, where the arguments are real. -/
module

public import Idealize.ShloMosaic.PureOps.Ideal
public import Idealize.ShloMosaic.Lib.Pointwise

@[expose] public section

noncomputable section

namespace Cert.Algebra

open Idealize.ShloMosaic

/-- The word of 1/4096, -/
abbrev cInv : EReal := Ideal.ofBits FTy.f32 0x39800000#32
/-- of 4096, -/
abbrev cLen : EReal := Ideal.ofBits FTy.f32 0x45800000#32
/-- and of the number added to a variance. -/
abbrev cEps : EReal := Ideal.ofBits FTy.f32 0x358637BD#32

theorem cInv_eq : cInv = ((1 / 4096 : ℝ) : EReal) := by
  simp [cInv, Ideal.ofBits, Ideal.ieee]
  rw [← EReal.coe_mul]
  norm_num

theorem cLen_eq : cLen = ((4096 : ℝ) : EReal) := by
  simp [cLen, Ideal.ofBits, Ideal.ieee]
  rw [← EReal.coe_mul]
  norm_num

/-- The number added to a variance is a positive real. -/
theorem cEps_eq : ∃ e : ℝ, 0 < e ∧ cEps = (e : EReal) := by
  refine ⟨8796093 / 8796093022208, by norm_num, ?_⟩
  simp [cEps, Ideal.ofBits, Ideal.ieee]
  rw [← EReal.coe_mul]
  norm_num

/-- A row's entry normalized as the kernel does it: its mean off, times the reciprocal root of the mean square less the squared mean. -/
def normK (x : Fin 4096 → EReal) (h : Fin 4096) : EReal :=
  (x h - (∑ k, x k) * cInv) * Ideal.rsqrt ((∑ k, x k * x k) * cInv - (∑ k, x k) * cInv * ((∑ k, x k) * cInv) + cEps)

/-- And as the reference does it: its mean off, times the reciprocal root of the mean squared distance from the mean. -/
def normR (x : Fin 4096 → EReal) (h : Fin 4096) : EReal :=
  (x h - Ideal.div (∑ k, x k) cLen) * Ideal.rsqrt (Ideal.div (∑ k, (x k - Ideal.div (∑ j, x j) cLen) * (x k - Ideal.div (∑ j, x j) cLen)) cLen + cEps)

/-- A result of the kernel, from a row, the per-entry scale and shift, a column of the weights, the low-rank factors and the bias. -/
def resK (x s l w : Fin 4096 → EReal) (a : Fin 32 → Fin 4096 → EReal) (b : Fin 32 → EReal) (c : EReal) : EReal :=
  (∑ h, normK x h * ((w h + ∑ r, a r h * b r) * s h)) + (c + ∑ h, (w h + ∑ r, a r h * b r) * l h)

/-- The reference's. -/
def resR (x s l w : Fin 4096 → EReal) (a : Fin 32 → Fin 4096 → EReal) (b : Fin 32 → EReal) (c : EReal) : EReal :=
  (∑ h, (normR x h * s h + l h) * w h) + (∑ r, (∑ h, a r h * (normR x h * s h + l h)) * b r) + c

/-- Sums of reals, as extended reals. -/
theorem coe_sum {ι : Type} (t : Finset ι) (f : ι → ℝ) : ((∑ i ∈ t, f i : ℝ) : EReal) = ∑ i ∈ t, (f i : EReal) := by
  induction t using Finset.cons_induction with
  | empty => simp
  | cons i t hi ih => rw [Finset.sum_cons, Finset.sum_cons, EReal.coe_add, ih]

/-- The mean square less the squared mean is the mean squared distance from the mean. -/
theorem variance (x : Fin 4096 → ℝ) :
    (∑ k, x k * x k) * (1 / 4096) - (∑ k, x k) * (1 / 4096) * ((∑ k, x k) * (1 / 4096))
      = (∑ k, (x k - (∑ j, x j) * (1 / 4096)) * (x k - (∑ j, x j) * (1 / 4096))) * (1 / 4096) := by
  generalize hS : (∑ j, x j) = S
  have e : ∀ k, (x k - S * (1 / 4096)) * (x k - S * (1 / 4096)) = x k * x k - x k * (2 * (S * (1 / 4096))) + S * (1 / 4096) * (S * (1 / 4096)) := fun k => by ring
  simp only [e, Finset.sum_add_distrib, Finset.sum_sub_distrib, ← Finset.sum_mul, hS, Finset.sum_const, Finset.card_univ, Fintype.card_fin, nsmul_eq_mul]
  push_cast
  ring

/-- Of a real row both normalizations are one real row. -/
theorem norm_real (x : Fin 4096 → ℝ) : ∃ n : Fin 4096 → ℝ, (∀ h, normK (fun k => (x k : EReal)) h = n h) ∧ ∀ h, normR (fun k => (x k : EReal)) h = n h := by
  obtain ⟨e, he, hE⟩ := cEps_eq
  have hv : 0 ≤ (∑ k, (x k - (∑ j, x j) * (1 / 4096)) * (x k - (∑ j, x j) * (1 / 4096))) * (1 / 4096) :=
    mul_nonneg (Finset.sum_nonneg fun k _ => mul_self_nonneg _) (by norm_num)
  have hr : ∀ v : ℝ, 0 ≤ v → Ideal.rsqrt ((v : EReal) + cEps) = ((√(v + e))⁻¹ : ℝ) := fun v h => by
    rw [hE, ← EReal.coe_add, Ideal.rsqrt_coe, if_neg (by linarith), if_neg (by linarith)]
  have hd : ∀ v : ℝ, Ideal.div (v : EReal) cLen = ((v * (1 / 4096) : ℝ) : EReal) := fun v => by
    rw [cLen_eq, Ideal.div_coe (by norm_num), ← EReal.coe_mul]
  refine ⟨fun h => (x h - (∑ k, x k) * (1 / 4096)) * (√((∑ k, (x k - (∑ j, x j) * (1 / 4096)) * (x k - (∑ j, x j) * (1 / 4096))) * (1 / 4096) + e))⁻¹, fun h => ?_, fun h => ?_⟩
  · unfold normK
    simp only [cInv_eq, ← EReal.coe_mul, ← coe_sum, ← EReal.coe_sub]
    rw [variance, hr _ hv, ← EReal.coe_mul]
  · unfold normR
    simp only [← coe_sum, hd, ← EReal.coe_mul, ← EReal.coe_sub]
    rw [hr _ hv, ← EReal.coe_mul]

/-- The same in reals, the bias apart: the low-rank product folded into the weights, the scale into their rows, the shift into the bias. -/
theorem fold_real (n s l w : Fin 4096 → ℝ) (a : Fin 32 → Fin 4096 → ℝ) (b : Fin 32 → ℝ) :
    (∑ h, n h * ((w h + ∑ r, a r h * b r) * s h)) + (∑ h, (w h + ∑ r, a r h * b r) * l h)
      = (∑ h, (n h * s h + l h) * w h) + (∑ r, (∑ h, a r h * (n h * s h + l h)) * b r) := by
  have e : ∑ r, (∑ h, a r h * (n h * s h + l h)) * b r = ∑ h, (n h * s h + l h) * ∑ r, a r h * b r := by
    simp only [Finset.sum_mul, Finset.mul_sum]
    rw [Finset.sum_comm]
    exact Finset.sum_congr rfl fun h _ => Finset.sum_congr rfl fun r _ => by ring
  rw [e, ← Finset.sum_add_distrib, ← Finset.sum_add_distrib]
  exact Finset.sum_congr rfl fun h _ => by ring

/-- The kernel's result is the reference's where all but the bias are real. -/
theorem res_eq (x s l w : Fin 4096 → EReal) (a : Fin 32 → Fin 4096 → EReal) (b : Fin 32 → EReal) (c : EReal)
    (hx : ∀ h, ∃ v : ℝ, x h = v) (hs : ∀ h, ∃ v : ℝ, s h = v) (hl : ∀ h, ∃ v : ℝ, l h = v) (hw : ∀ h, ∃ v : ℝ, w h = v)
    (ha : ∀ r h, ∃ v : ℝ, a r h = v) (hb : ∀ r, ∃ v : ℝ, b r = v) : resK x s l w a b c = resR x s l w a b c := by
  choose x' hx using hx
  choose s' hs using hs
  choose l' hl using hl
  choose w' hw using hw
  choose a' ha using ha
  choose b' hb using hb
  obtain ⟨n, hK, hR⟩ := norm_real x'
  obtain rfl : x = fun k => (x' k : EReal) := funext hx
  unfold resK resR
  simp only [hK, hR, hs, hl, hw, ha, hb, ← EReal.coe_mul, ← coe_sum, ← EReal.coe_add]
  rw [add_left_comm, ← EReal.coe_add, fold_real, add_comm]

end Cert.Algebra

end
-- ==== Proof.Read.lean ====
/- The kernel's arithmetic over the extended reals, entry by entry. -/
module

public import proofs.«01_k».proof.Proof.Fold
public import proofs.«01_k».proof.Proof.Algebra
public import Idealize.ShloMosaic.Lib.ValueIdx
public import Idealize.ShloMosaic.Lib.ValueLayout
public import Idealize.ShloMosaic.Lib.Pointwise

@[expose] public section

set_option maxRecDepth 16384

noncomputable section

namespace Cert.KernelIdeal.Fold

open Cert.KernelIdeal Cert.KernelIdeal.Gen
open Idealize.ShloMosaic

/-- A chunk's weights plus its low-rank product, -/
theorem pay3_at (xa : Vec Ideal S32x64 .f32) (xb : Vec Ideal S32x4096 .f32) (v : Vec Ideal S1x64x4096 .f32) (p : Fin 64) (f : Fin 4096) :
    k0_pay3 xa xb v (ix2 p f) = v (ix3 0 p f) + ∑ r : Fin 32, xa (ix2 r p) * xb (ix2 r f) := by
  pointwise [k0_pay3]

/-- each row times its scale, -/
theorem pay4_at (xa : Vec Ideal S32x64 .f32) (xb : Vec Ideal S32x4096 .f32) (v : Vec Ideal S1x64x4096 .f32) (s : Vec Ideal S1x64 .f32) (p : Fin 64) (f : Fin 4096) :
    k0_pay4 xa xb v s (ix2 p f) = k0_pay3 xa xb v (ix2 p f) * s (ix2 0 p) := by
  pointwise [k0_pay4]

/-- and what the chunk adds to the folded bias; -/
theorem pay5_at (y : Vec Ideal S1x4096 .f32) (xa : Vec Ideal S32x64 .f32) (xb : Vec Ideal S32x4096 .f32) (v : Vec Ideal S1x64x4096 .f32) (s : Vec Ideal S1x64 .f32) (f : Fin 4096) :
    k0_pay5 y xa xb v s (ix2 0 f) = y (ix2 0 f) + ∑ p : Fin 64, k0_pay3 xa xb v (ix2 p f) * s (ix2 0 p) := by
  pointwise [k0_pay5]

/-- a block of results from normalized rows, folded weights and folded bias. -/
theorem outX_at (y : Vec Ideal S1x256x4096 .bf16) (w : Vec Ideal S4096x4096 .bf16) (b : Vec Ideal S1x4096 .f32) (r : Fin 256) (f : Fin 4096) :
    outX y w b (ix2 r f) = (∑ h : Fin 4096, y (ix3 0 r h) * w (ix2 h f)) + b (ix2 0 f) := by
  pointwise [outX, k0_pay242]

/-- The normalized rows. -/
theorem normX_at (x : Vec Ideal S256x4096 .f32) (r : Fin 256) (h : Fin 4096) :
    normX x (ix3 0 r h) = Cert.Algebra.normK (fun k => x (ix2 r k)) h := by
  pointwise [normX, k0_pay1, k0_pay243]
  rfl

/-- A chunk's entries in the operands: the first factor's column, -/
theorem cols_at (x : Vec Ideal S32x4096 .f32) (k : Fin 64) (r : Fin 32) (p : Fin 64) (h : Fin 4096) (hh : h.val = 64 * k.val + p.val) :
    cols x k (ix2 r p) = x (ix2 r h) :=
  congrArg x (funext fun a => match a with
    | ⟨0, _⟩ => Fin.ext (by show 0 + 1 * r.val = r.val; omega)
    | ⟨1, _⟩ => Fin.ext (by show 64 * k.val + 1 * p.val = h.val; omega))

/-- the weights' row, -/
theorem rows_slot_at (W : Vec Ideal S4096x4096 .f32) (k p : Fin 64) (f h : Fin 4096) (hh : h.val = 64 * k.val + p.val) :
    slotOf (rowsOf W k) (ix3 0 p f) = W (ix2 h f) := by
  have e : (Shape.reshapeEquiv squeezes_S1x64x4096_S64x4096.numel_eq).symm (ix3 0 p f) = (ix2 p f : S64x4096.Idx) := by
    rw [Shape.reshapeEquiv_symm]
    refine Shape.reshapeEquiv_eq_of_rowMajor _ ?_
    rw [Shape.rowMajor_val_two, Shape.rowMajor_val_three]
    show p.val * 4096 + f.val = (0 * 64 + p.val) * 4096 + f.val
    omega
  unfold slotOf
  rw [e]
  exact congrArg W (funext fun a => match a with
    | ⟨0, _⟩ => Fin.ext (by show 64 * k.val + 1 * p.val = h.val; omega)
    | ⟨1, _⟩ => Fin.ext (by show 0 + 1 * f.val = f.val; omega))

/-- where a per-row entry lies, 128 to a row, -/
abbrev laneOf (h : Fin 4096) : S32x128.Idx := ix2 ⟨h.val / 128, by omega⟩ ⟨h.val % 128, Nat.mod_lt _ (by decide)⟩

/-- and the per-row entry. -/
theorem lane_row_at (x : Vec Ideal S32x128 .f32) (k p : Fin 64) (h : Fin 4096) (hh : h.val = 64 * k.val + p.val) :
    lane x k (ix2 0 p) = x (laneOf h) :=
  congrArg x (funext fun a => match a with
    | ⟨0, _⟩ => Fin.ext (by show k.val / 2 + 1 * 0 = h.val / 128; omega)
    | ⟨1, _⟩ => Fin.ext (by show 64 * (k.val % 2) + 1 * p.val = h.val % 128; omega))

/-- The weights with the low-rank product added, at a row and a column. -/
def plusLow (xa xb : Vec Ideal S32x4096 .f32) (W : Vec Ideal S4096x4096 .f32) (h f : Fin 4096) : EReal :=
  W (ix2 h f) + ∑ r : Fin 32, xa (ix2 r h) * xb (ix2 r f)

/-- A chunk's row of them. -/
theorem chunk_at (xa xb : Vec Ideal S32x4096 .f32) (W : Vec Ideal S4096x4096 .f32) (k p : Fin 64) (h f : Fin 4096) (hh : h.val = 64 * k.val + p.val) :
    k0_pay3 (cols xa k) xb (slotOf (rowsOf W k)) (ix2 p f) = plusLow xa xb W h f := by
  rw [pay3_at, rows_slot_at W k p f h hh]
  exact congrArg (_ + ·) (Finset.sum_congr rfl fun r _ => by rw [cols_at xa k r p h hh])

/-- The scaled weights at a row and a column. -/
theorem foldW_at (xa xb : Vec Ideal S32x4096 .f32) (W : Vec Ideal S4096x4096 .f32) (s : Vec Ideal S32x128 .f32) (h f : Fin 4096) :
    foldW xa xb W s (ix2 h f) = plusLow xa xb W h f * s (laneOf h) := by
  have hk : chunkOf (ix2 h f) = ⟨h.val / 64, by omega⟩ := rfl
  have hp : placeIn (ix2 h f) = ix2 ⟨h.val % 64, Nat.mod_lt _ (by decide)⟩ f := by
    funext a; match a with | ⟨0, _⟩ => rfl | ⟨1, _⟩ => rfl
  have hh : h.val = 64 * (⟨h.val / 64, by omega⟩ : Fin 64).val + (⟨h.val % 64, Nat.mod_lt _ (by decide)⟩ : Fin 64).val := (Nat.div_add_mod _ _).symm
  unfold foldW chunkW
  rw [hk, hp, pay4_at, chunk_at xa xb W _ _ h f hh, lane_row_at s _ _ h hh]

/-- The row numbered `n`. -/
abbrev rowN (n : ℕ) : Fin 4096 := Fin.ofNat 4096 n

/-- The folded bias after `k` chunks: the bias plus the first `64 k` rows' contributions. -/
theorem accB_at (xa xb : Vec Ideal S32x4096 .f32) (W : Vec Ideal S4096x4096 .f32) (l : Vec Ideal S32x128 .f32) (b : Vec Ideal S1x4096 .f32)
    (f : Fin 4096) (k : ℕ) (hk : k ≤ 64) :
    accB xa xb W l b k (ix2 0 f) = b (ix2 0 f) + ∑ n ∈ Finset.range (64 * k), plusLow xa xb W (rowN n) f * l (laneOf (rowN n)) := by
  induction k with
  | zero =>
    rw [Nat.mul_zero, Finset.range_zero, Finset.sum_empty, add_zero, accB]
    pointwise [k0_pay2]
  | succ k ih =>
    rw [accB, pay5_at, ih (by omega), Nat.mul_succ, Finset.sum_range_add, add_assoc, Finset.sum_range (n := 64)]
    refine congrArg (_ + ·) (congrArg (_ + ·) (Finset.sum_congr rfl fun p _ => ?_))
    have hk' : (Fin.ofNat 64 k).val = k := Nat.mod_eq_of_lt (by omega)
    have hh : (rowN (64 * k + p.val)).val = 64 * (Fin.ofNat 64 k).val + p.val := by
      rw [hk']; exact Nat.mod_eq_of_lt (by omega)
    rw [chunk_at xa xb W _ p _ f hh, lane_row_at l _ p _ hh]

/-- The folded bias at a column: the bias plus every row's contribution. -/
theorem foldB_at (xa xb : Vec Ideal S32x4096 .f32) (W : Vec Ideal S4096x4096 .f32) (l : Vec Ideal S32x128 .f32) (b : Vec Ideal S1x4096 .f32) (f : Fin 4096) :
    foldB xa xb W l b (ix2 0 f) = b (ix2 0 f) + ∑ h : Fin 4096, plusLow xa xb W h f * l (laneOf h) := by
  have e : foldB xa xb W l b (ix2 0 f) = accB xa xb W l b 64 (ix2 0 f) := by
    unfold foldB
    rw [shapeCast_self]
  rw [e, accB_at xa xb W l b f 64 le_rfl, Finset.sum_range]
  refine congrArg (_ + ·) (Finset.sum_congr rfl fun h _ => ?_)
  rw [show rowN h.val = h from Fin.ext (Nat.mod_eq_of_lt h.isLt)]

end Cert.KernelIdeal.Fold

end
-- ==== Proof.Ref.lean ====
/- The reference's result, entry by entry. -/
module

public import proofs.«01_k».proof.Proof.Gen.ReferenceIdeal.Run
public import proofs.«01_k».proof.Proof.Algebra
public import Idealize.ShloMosaic.Lib.Pointwise

@[expose] public section

set_option maxRecDepth 16384

noncomputable section

namespace Cert.ReferenceIdeal.Entry

open Cert.ReferenceIdeal Cert.ReferenceIdeal.Gen Cert.ReferenceIdeal.Value
open Idealize.ShloMosaic Idealize.ShloMosaic.TcCoe

/-- The reference's result at row `s` of sequence `b` and column `f`. -/
theorem result_at (m : (ℓ : Loc nD τ sig) → Buf (Elt Ideal) ℓ) (c : Dev nD) (b : Fin 4) (s : Fin 2048) (f : Fin 4096) :
    res_main_v30 m c (ix3 b s f) = Cert.Algebra.resR (fun h => m ((c.tc : Thread nD τ).loc main_arg0) (ix3 b s h))
      (fun h => m ((c.tc : Thread nD τ).loc main_arg1) (ix1 h)) (fun h => m ((c.tc : Thread nD τ).loc main_arg2) (ix1 h))
      (fun h => m ((c.tc : Thread nD τ).loc main_arg3) (ix2 h f)) (fun r h => m ((c.tc : Thread nD τ).loc main_arg4) (ix2 h r))
      (fun r => m ((c.tc : Thread nD τ).loc main_arg5) (ix2 r f)) (m ((c.tc : Thread nD τ).loc main_arg6) (ix1 f)) := by
  pointwise [res_main_v30]
  rfl

end Cert.ReferenceIdeal.Entry

end
-- ==== Proof.Equal.lean ====
/- The kernel's result over the extended reals, entry by entry, and its equation with the reference's. -/
module

public import proofs.«01_k».proof.Defs
public import proofs.«01_k».proof.Proof.Value
public import proofs.«01_k».proof.Proof.Read
public import proofs.«01_k».proof.Proof.Ref
public import proofs.«01_k».proof.Proof.Algebra

@[expose] public section

set_option maxRecDepth 16384

noncomputable section

namespace Cert.KernelIdeal.Fold

open Cert.KernelIdeal Cert.KernelIdeal.Gen
open Idealize.ShloMosaic Idealize.ShloMosaic.TcCoe

variable (m : (ℓ : Loc nD τ sig) → Buf (Elt Ideal) ℓ)

/-- The arguments' entries at one result's row and column: the row, -/
abbrev xr (c : Dev nD) (b : Fin 4) (s : Fin 2048) (h : Fin 4096) : EReal := m ((c.tc : Thread nD τ).loc main_arg0) (ix3 b s h)
/-- the scale, -/
abbrev sr (c : Dev nD) (h : Fin 4096) : EReal := m ((c.tc : Thread nD τ).loc main_arg1) (ix1 h)
/-- the shift, -/
abbrev lr (c : Dev nD) (h : Fin 4096) : EReal := m ((c.tc : Thread nD τ).loc main_arg2) (ix1 h)
/-- the weights' column, -/
abbrev wr (c : Dev nD) (f h : Fin 4096) : EReal := m ((c.tc : Thread nD τ).loc main_arg3) (ix2 h f)
/-- the first low-rank factor, -/
abbrev ar (c : Dev nD) (r : Fin 32) (h : Fin 4096) : EReal := m ((c.tc : Thread nD τ).loc main_arg4) (ix2 h r)
/-- the second's column -/
abbrev br (c : Dev nD) (f : Fin 4096) (r : Fin 32) : EReal := m ((c.tc : Thread nD τ).loc main_arg5) (ix2 r f)
/-- and the bias. -/
abbrev cr (c : Dev nD) (f : Fin 4096) : EReal := m ((c.tc : Thread nD τ).loc main_arg6) (ix1 f)

/-- The weights with the low-rank product added, in terms of the arguments; -/
theorem plusLow_args (c : Dev nD) (h f : Fin 4096) :
    plusLow (iblk m c 1 (pt 0)) (iblk m c 2 (pt 0)) (V m c main_arg3) h f = wr m c f h + ∑ r : Fin 32, ar m c r h * br m c f r := by
  unfold plusLow
  rw [V_main_arg3, b_at]
  exact congrArg (fun u : EReal => wr m c f h + u) (Finset.sum_congr rfl fun r _ => congrArg (fun u : EReal => u * br m c f r) (a_at m c r h))

theorem laneOf_val (h : Fin 4096) : (laneOf h 0).val * 128 + (laneOf h 1).val = h.val := Nat.div_add_mod' _ _

/-- the folded weights; -/
theorem fw_args (c : Dev nD) (h f : Fin 4096) :
    fw m c (ix2 h f) = (wr m c f h + ∑ r : Fin 32, ar m c r h * br m c f r) * sr m c h :=
  (foldW_at _ _ _ _ h f).trans (congrArg₂ (fun u v : EReal => u * v) (plusLow_args m c h f) (scale_at m c h _ (laneOf_val h)))

/-- the folded bias. -/
theorem fb_args (c : Dev nD) (f : Fin 4096) :
    fb m c (ix2 0 f) = cr m c f + ∑ h : Fin 4096, (wr m c f h + ∑ r : Fin 32, ar m c r h * br m c f r) * lr m c h :=
  (foldB_at _ _ _ _ _ f).trans (congrArg₂ (fun u v : EReal => u + v) (bias_at m c f)
    (Finset.sum_congr rfl fun h _ => congrArg₂ (fun u v : EReal => u * v) (plusLow_args m c h f) (shift_at m c h _ (laneOf_val h))))

/-- A normalized row's entry. -/
theorem norm_args (c : Dev nD) (b : Fin 4) (s : Fin 2048) (h : Fin 4096) :
    normX (iblk m c 0 (pt (tileOf b s))) (ix3 0 (rowOf b s) h) = Cert.Algebra.normK (xr m c b s) h :=
  (normX_at _ _ h).trans (congrArg (fun x => Cert.Algebra.normK x h) (funext fun k => x_at m c b s k))

/-- The kernel's result at row `s` of sequence `b` and column `f`. -/
theorem kernel_at (c : Dev nD) (b : Fin 4) (s : Fin 2048) (f : Fin 4096) :
    shapeCast S4x2048x4096 (outArr m c) shapeCasts_S8192x4096_S4x2048x4096 (ix3 b s f)
      = Cert.Algebra.resK (xr m c b s) (sr m c) (lr m c) (wr m c f) (ar m c) (br m c f) (cr m c f) :=
  (result_at m c b s f).trans ((outX_at _ _ _ _ f).trans (congrArg₂ (fun u v : EReal => u + v)
    (Finset.sum_congr rfl fun h _ => congrArg₂ (fun u v : EReal => u * v) (norm_args m c b s h) (fw_args m c h f)) (fb_args m c f)))

/-- A number smaller in size than infinity is real. -/
theorem real_of_lt {v : EReal} (h : max v (-v) < Ideal.ofBits FTy.f32 0x7F800000#32) : ∃ u : ℝ, v = u := by
  have hi : Ideal.ofBits FTy.f32 0x7F800000#32 = ⊤ := by simp [Ideal.ofBits, Ideal.ieee]
  rw [hi, max_lt_iff] at h
  induction v with
  | bot => simp at h
  | coe u => exact ⟨u, rfl⟩
  | top => simp at h

/-- So an array whose sizes are all found below infinity holds real numbers. -/
theorem all_real {s : Shape} (v : FVec Ideal s .f32) (hb : Cert.Pre_finite.S_.BroadcastsInDim s (![] : Fin 0 → Fin s.rank))
    (h : cmpf .olt (Host.absf v) (broadcastInDim s ![] hb (constant Cert.Pre_finite.S_ .f32 0x7F800000#32)) = fun _ => 1#1) (i : s.Idx) :
    ∃ u : ℝ, (v i : EReal) = u := by
  have h' := congrFun h i
  have e : BitVec.ofBool (decide (max (v i : EReal) (-(v i : EReal)) < Ideal.ofBits FTy.f32 0x7F800000#32)) = 1#1 := h'
  by_cases hd : max (v i : EReal) (-(v i : EReal)) < Ideal.ofBits FTy.f32 0x7F800000#32
  · exact real_of_lt hd
  · rw [decide_eq_false hd] at e; exact absurd e (by decide)

/-- Where the arguments but the bias are finite, the kernel's result is the reference's, entry by entry. -/
theorem entry_eq_ref [Cert.Pre_finite.Facts] (hpre : Cert.Pre_KernelIdeal_finite m) (c : Dev nD) (b : Fin 4) (s : Fin 2048) (f : Fin 4096) :
    Cert.Algebra.resK (xr m c b s) (sr m c) (lr m c) (wr m c f) (ar m c) (br m c f) (cr m c f)
     = Cert.Algebra.resR (xr m c b s) (sr m c) (lr m c) (wr m c f) (ar m c) (br m c f) (cr m c f) := by
  obtain ⟨h0, h1, h2, h3, h4, h5⟩ := hpre c
  exact Cert.Algebra.res_eq _ _ _ _ _ _ _ (fun h => all_real _ _ h0 _) (fun h => all_real _ _ h1 _) (fun h => all_real _ _ h2 _)
    (fun h => all_real _ _ h3 _) (fun r h => all_real _ _ h4 _) (fun r => all_real _ _ h5 _)

/-- Where the arguments but the bias are finite and the two programs' agree, the kernel's result is the reference's. -/
theorem result_eq [Cert.Pre_finite.Facts] (hpre : Cert.Pre_KernelIdeal_finite m)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6)) :
    Cert.ReferenceIdeal.Value.res_main_v30 m' c = shapeCast S4x2048x4096 (outArr m c) shapeCasts_S8192x4096_S4x2048x4096 := by
  refine funext fun i => ?_
  obtain ⟨b, s, f, rfl⟩ : ∃ (b : Fin 4) (s : Fin 2048) (f : Fin 4096), i = ix3 b s f := ⟨i 0, i 1, i 2, ValueIdx.eq_ix3 i⟩
  refine (Cert.ReferenceIdeal.Entry.result_at m' c b s f).trans ((Eq.trans ?_ (entry_eq_ref m hpre c b s f).symm).trans (kernel_at m c b s f).symm)
  rw [h0, h1, h2, h3, h4, h5, h6]

end Cert.KernelIdeal.Fold

end
-- ==== Proof.lean ====
module

public import proofs.«01_k».proof.Defs
public import proofs.«01_k».proof.Proof.AsPrinted.Frame
public import proofs.«01_k».proof.Proof.Launch
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.Kernel

/-- The printed kernel runs, keeps its arguments, and leaves every semaphore zero. -/
theorem frame_p : Cert.quiescent_Kernel := fun m ρ _ => Cert.Kernel.AsPrinted.frame m ρ

/-- So does its idealization, -/
theorem frame_pi : Cert.quiescent_KernelIdeal := fun m ρ _ => Cert.KernelIdeal.Fold.frame m ρ

/-- and the reference, which declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both frames hold as well where the arguments but the bias are finite. -/
theorem frame_pi_finite : Cert.quiescent_KernelIdeal_pre_finite := fun m ρ _ => Cert.KernelIdeal.Fold.frame m ρ

theorem frame_ri_finite : Cert.quiescent_ReferenceIdeal_pre_finite := fun m ρ _ => frame_ri m ρ trivial

/-- Where the arguments but the bias are finite, the kernel's whole result is the reference's. -/
theorem equal : Cert.algebraic_KernelIdeal_ReferenceIdeal_pre_finite := by
  intro m ρ m' ρ' hpre hargs
  refine ⟨_, (θ_run Cert.KernelIdeal.defs _ _).mono
    (fun r h c => ⟨Cert.KernelIdeal.Fold.result_of_post m h c, Cert.KernelIdeal.Fold.args_of_post m h c⟩)
    (Cert.KernelIdeal.Fold.run m ρ), ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6⟩ := hargs c
  exact Cert.KernelIdeal.Fold.result_eq m hpre m' c h0 h1 h2 h3 h4 h5 h6

/-- Every claim of the certificate. -/
theorem claim : Cert.Claim := ⟨Cert.Kernel.Gen.facts, Cert.KernelIdeal.Gen.facts, Cert.ReferenceIdeal.Gen.facts,
  Cert.Pre_finite.Gen.facts, frame_p, frame_pi, frame_pi_finite, frame_ri, frame_ri_finite, trivial, equal⟩

end Cert.Proof

end
